-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame_norm [hPre_tame_norm : Cert.Pre_tame_norm.Facts] (m : (ℓ : Loc Cert.KernelIdeal.nD Cert.KernelIdeal.τ Cert.KernelIdeal.sig) → Buf (Elt Ideal) ℓ) : Prop :=
  ∀ c : Dev Cert.KernelIdeal.nD,
    (Cert.Pre_tame_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame_norm [hPre_tame_norm : Cert.Pre_tame_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_tame_norm [hKernelIdeal : Cert.KernelIdeal.Facts] [hPre_tame_norm : Cert.Pre_tame_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_tame_norm [hReferenceIdeal : Cert.ReferenceIdeal.Facts] [hPre_tame_norm : Cert.Pre_tame_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_tame_norm [hKernelIdeal : Cert.KernelIdeal.Facts] [hReferenceIdeal : Cert.ReferenceIdeal.Facts] [hPre_tame_norm : Cert.Pre_tame_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tame_norm : Cert.Pre_tame_norm.Facts),
    quiescent_Kernel (hKernel := hKernel)
    ∧ quiescent_KernelIdeal (hKernelIdeal := hKernelIdeal)
    ∧ quiescent_KernelIdeal_pre_tame_norm (hKernelIdeal := hKernelIdeal) (hPre_tame_norm := hPre_tame_norm)
    ∧ quiescent_ReferenceIdeal (hReferenceIdeal := hReferenceIdeal)
    ∧ quiescent_ReferenceIdeal_pre_tame_norm (hReferenceIdeal := hReferenceIdeal) (hPre_tame_norm := hPre_tame_norm)
    ∧ preserves_Kernel_KernelIdeal
    ∧ algebraic_KernelIdeal_ReferenceIdeal_pre_tame_norm (hKernelIdeal := hKernelIdeal) (hReferenceIdeal := hReferenceIdeal) (hPre_tame_norm := hPre_tame_norm)
-- ==== Pre_tame_norm.lean ====
abbrev S5000x7x7x256 : Shape := ⟨4, ![5000, 7, 7, 256]⟩
abbrev S7x7x256x1024 : Shape := ⟨4, ![7, 7, 256, 1024]⟩
abbrev S1024 : Shape := ⟨1, ![1024]⟩
abbrev S1x1x1024x1024 : Shape := ⟨4, ![1, 1, 1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S_ : Shape := ⟨0, ![]⟩

class Facts : Prop where
  bcast_S_S1024 : S_.BroadcastsInDim S1024 (![] : Fin 0 → Fin S1024.rank)

variable [Facts]

def fn_part1 {F : FTy → Type} [FloatOps F] (main_arg12 : FVec F S1024 .f32) (main_v2 : IVec S1024 1) (main_v5 : IVec S1024 1) (main_v8 : IVec S1024 1) (main_v10 : IVec S1024 1) (main_v13 : IVec S1024 1) (main_v16 : IVec S1024 1) (main_v17 : FVec F S1024 .f32) : IVec S1024 1 :=
  let main_cst_5 : FVec F S_ .f32 := constant S_ .f32 0x7F800000#32
  let main_v18 : FVec F S1024 .f32 := broadcastInDim S1024 ![] bcast_S_S1024 main_cst_5
  let main_v19 : IVec S1024 1 := cmpf .olt main_v17 main_v18
  let main_cst_6 : FVec F S_ .f32 := constant S_ .f32 0x00000000#32
  let main_v20 : FVec F S1024 .f32 := broadcastInDim S1024 ![] bcast_S_S1024 main_cst_6
  let main_v21 : IVec S1024 1 := cmpf .oge main_arg12 main_v20
  let main_v22 : IVec S1024 1 := andi main_v2 main_v5
  let main_v23 : IVec S1024 1 := andi main_v22 main_v8
  let main_v24 : IVec S1024 1 := andi main_v23 main_v10
  let main_v25 : IVec S1024 1 := andi main_v24 main_v13
  let main_v26 : IVec S1024 1 := andi main_v25 main_v16
  let main_v27 : IVec S1024 1 := andi main_v26 main_v19
  let main_v28 : IVec S1024 1 := andi main_v27 main_v21
  main_v28

def fn {F : FTy → Type} [FloatOps F] (main_arg0 : FVec F S5000x7x7x256 .f32) (main_arg1 : FVec F S7x7x256x1024 .f32) (main_arg2 : FVec F S1024 .f32) (main_arg3 : FVec F S1024 .f32) (main_arg4 : FVec F S1024 .f32) (main_arg5 : FVec F S1024 .f32) (main_arg6 : FVec F S1024 .f32) (main_arg7 : FVec F S1x1x1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024x81 .f32) (main_arg14 : FVec F S81 .f32) (main_arg15 : FVec F S1024x324 .f32) (main_arg16 : FVec F S324 .f32) : IVec S1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024 .f32 := Host.absf main_arg3
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg5
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_cst_2 : FVec F S_ .f32 := constant S_ .f32 0x00000000#32
  let main_v9 : FVec F S1024 .f32 := broadcastInDim S1024 ![] bcast_S_S1024 main_cst_2
  let main_v10 : IVec S1024 1 := cmpf .oge main_arg6 main_v9
  let main_v11 : FVec F S1024 .f32 := Host.absf main_arg8
  let main_cst_3 : FVec F S_ .f32 := constant S_ .f32 0x7F800000#32
  let main_v12 : FVec F S1024 .f32 := broadcastInDim S1024 ![] bcast_S_S1024 main_cst_3
  let main_v13 : IVec S1024 1 := cmpf .olt main_v11 main_v12
  let main_v14 : FVec F S1024 .f32 := Host.absf main_arg9
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  let main_v17 : FVec F S1024 .f32 := Host.absf main_arg11
  fn_part1 (F := F) main_arg12 main_v2 main_v5 main_v8 main_v10 main_v13 main_v16 main_v17
-- ==== Kernel.lean ====
abbrev S5000x7x7x256 : Shape := ⟨4, ![5000, 7, 7, 256]⟩
abbrev S7x7x256x1024 : Shape := ⟨4, ![7, 7, 256, 1024]⟩
abbrev S1024 : Shape := ⟨1, ![1024]⟩
abbrev S1x1x1024x1024 : Shape := ⟨4, ![1, 1, 1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S7x7x5000x256 : Shape := ⟨4, ![7, 7, 5000, 256]⟩
abbrev S7x1792x1024 : Shape := ⟨3, ![7, 1792, 1024]⟩
abbrev S1024x1024 : Shape := ⟨2, ![1024, 1024]⟩
abbrev S_ : Shape := ⟨0, ![]⟩
abbrev S1x1024 : Shape := ⟨2, ![1, 1024]⟩
abbrev S1x81 : Shape := ⟨2, ![1, 81]⟩
abbrev S1x324 : Shape := ⟨2, ![1, 324]⟩
abbrev S5000x81 : Shape := ⟨2, ![5000, 81]⟩
abbrev S5000x324 : Shape := ⟨2, ![5000, 324]⟩
abbrev S1x7x1000x256 : Shape := ⟨4, ![1, 7, 1000, 256]⟩
abbrev S1000x81 : Shape := ⟨2, ![1000, 81]⟩
abbrev S1000x324 : Shape := ⟨2, ![1000, 324]⟩
abbrev S1000x1792 : Shape := ⟨2, ![1000, 1792]⟩
abbrev S1000x1024 : Shape := ⟨2, ![1000, 1024]⟩
abbrev S1x1x1000x256 : Shape := ⟨4, ![1, 1, 1000, 256]⟩
abbrev S1000x256 : Shape := ⟨2, ![1000, 256]⟩
abbrev S1x1792x1024 : Shape := ⟨3, ![1, 1792, 1024]⟩
abbrev S1792x1024 : Shape := ⟨2, ![1792, 1024]⟩
abbrev S1000 : Shape := ⟨1, ![1000]⟩
abbrev S1000x1 : Shape := ⟨2, ![1000, 1]⟩
abbrev S5000x81x4 : Shape := ⟨3, ![5000, 81, 4]⟩

abbrev nBuf : Space → Nat
  | .hbm => 50
  | .vmem => 20
  | .smem => 0
  | _ => 0

abbrev bufTy : (tb : Table) → Fin (tcTables nBuf tb) → BufTy
  | .hbm, ⟨0, _⟩ => ⟨S5000x7x7x256, .f32⟩
  | .hbm, ⟨1, _⟩ => ⟨S7x7x256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1x1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x81, .f32⟩
  | .hbm, ⟨14, _⟩ => ⟨S81, .f32⟩
  | .hbm, ⟨15, _⟩ => ⟨S1024x324, .f32⟩
  | .hbm, ⟨16, _⟩ => ⟨S324, .f32⟩
  | .hbm, ⟨17, _⟩ => ⟨S7x7x5000x256, .f32⟩
  | .hbm, ⟨18, _⟩ => ⟨S7x7x256x1024, .bf16⟩
  | .hbm, ⟨19, _⟩ => ⟨S7x1792x1024, .bf16⟩
  | .hbm, ⟨20, _⟩ => ⟨S1024x1024, .f32⟩
  | .hbm, ⟨21, _⟩ => ⟨S1024x1024, .bf16⟩
  | .hbm, ⟨22, _⟩ => ⟨S1024x81, .bf16⟩
  | .hbm, ⟨23, _⟩ => ⟨S1024x324, .bf16⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x81, .f32⟩
  | .hbm, ⟨45, _⟩ => ⟨S1x324, .f32⟩
  | .hbm, ⟨46, _⟩ => ⟨S5000x81, .f32⟩
  | .hbm, ⟨47, _⟩ => ⟨S5000x81, .f32⟩
  | .hbm, ⟨48, _⟩ => ⟨S5000x324, .f32⟩
  | .hbm, ⟨49, _⟩ => ⟨S5000x81x4, .f32⟩
  | .local _ .vmem, ⟨0, _⟩ => ⟨S1x7x1000x256, .f32⟩
  | .local _ .vmem, ⟨1, _⟩ => ⟨S1x7x1000x256, .f32⟩
  | .local _ .vmem, ⟨2, _⟩ => ⟨S7x1792x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x81, .bf16⟩
  | .local _ .vmem, ⟨9, _⟩ => ⟨S1x81, .f32⟩
  | .local _ .vmem, ⟨10, _⟩ => ⟨S1024x324, .bf16⟩
  | .local _ .vmem, ⟨11, _⟩ => ⟨S1x324, .f32⟩
  | .local _ .vmem, ⟨12, _⟩ => ⟨S1000x81, .f32⟩
  | .local _ .vmem, ⟨13, _⟩ => ⟨S1000x81, .f32⟩
  | .local _ .vmem, ⟨14, _⟩ => ⟨S1000x81, .f32⟩
  | .local _ .vmem, ⟨15, _⟩ => ⟨S1000x81, .f32⟩
  | .local _ .vmem, ⟨16, _⟩ => ⟨S1000x324, .f32⟩
  | .local _ .vmem, ⟨17, _⟩ => ⟨S1000x324, .f32⟩
  | .local _ .vmem, ⟨18, _⟩ => ⟨S1000x1792, .bf16⟩
  | .local _ .vmem, ⟨19, _⟩ => ⟨S1000x1024, .f32⟩
  | _, _ => ⟨S5000x7x7x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_v27_2 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![5, 7], ![false, false]⟩

def k0_off1 (i : grid0.Coords) : Fin 3 → Nat :=
  let arg1 : BitVec 32 := BitVec.ofNat 32 (i 1).val
  let v43 : Index := Scalar.indexCast arg1
  let c0_31 : Index := 0#32
  let c0_32 : Index := 0#32
  ![v43.toNat, 0, 0]
def k0_cond3 (i : grid0.Coords) : BitVec 1 :=
  let arg1 : BitVec 32 := BitVec.ofNat 32 (i 1).val
  let c6_i32 : BitVec 32 := 6#32
  let v53 : BitVec 1 := Scalar.cmpi .eq arg1 c6_i32
  let v54 : BitVec 32 := Scalar.extui v53
  let c0_i32_36 : BitVec 32 := 0#32
  let v55 : BitVec 1 := Scalar.cmpi .ne v54 c0_i32_36
  v55

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x7x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S7x1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x81 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x81 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x324 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x324 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1000x81 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1000x81 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1000x324 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S5000x7x7x256 : Shape := ⟨4, ![5000, 7, 7, 256]⟩
abbrev S7x7x256x1024 : Shape := ⟨4, ![7, 7, 256, 1024]⟩
abbrev S1024 : Shape := ⟨1, ![1024]⟩
abbrev S1x1x1024x1024 : Shape := ⟨4, ![1, 1, 1024, 1024]⟩
abbrev S1024x81 : Shape := ⟨2, ![1024, 81]⟩
abbrev S81 : Shape := ⟨1, ![81]⟩
abbrev S1024x324 : Shape := ⟨2, ![1024, 324]⟩
abbrev S324 : Shape := ⟨1, ![324]⟩
abbrev S5000x1024 : Shape := ⟨2, ![5000, 1024]⟩
abbrev S1x1024 : Shape := ⟨2, ![1, 1024]⟩
abbrev S_ : Shape := ⟨0, ![]⟩
abbrev S1024x1024 : Shape := ⟨2, ![1024, 1024]⟩
abbrev S5000x81 : Shape := ⟨2, ![5000, 81]⟩
abbrev S1x81 : Shape := ⟨2, ![1, 81]⟩
abbrev S5000 : Shape := ⟨1, ![5000]⟩
abbrev S5000x1 : Shape := ⟨2, ![5000, 1]⟩
abbrev S5000x324 : Shape := ⟨2, ![5000, 324]⟩
abbrev S1x324 : Shape := ⟨2, ![1, 324]⟩
abbrev S5000x81x4 : Shape := ⟨3, ![5000, 81, 4]⟩

abbrev nBuf : Space → Nat
  | .hbm => 87
  | .vmem => 0
  | .smem => 0
  | _ => 0

abbrev bufTy : (tb : Table) → Fin (tcTables nBuf tb) → BufTy
  | .hbm, ⟨0, _⟩ => ⟨S5000x7x7x256, .f32⟩
  | .hbm, ⟨1, _⟩ => ⟨S7x7x256x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1x1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x81, .f32⟩
  | .hbm, ⟨14, _⟩ => ⟨S81, .f32⟩
  | .hbm, ⟨15, _⟩ => ⟨S1024x324, .f32⟩
  | .hbm, ⟨16, _⟩ => ⟨S324, .f32⟩
  | .hbm, ⟨17, _⟩ => ⟨S5000x1024, .f32⟩
  | .hbm, ⟨18, _⟩ => ⟨S1x1024, .f32⟩
  | .hbm, ⟨19, _⟩ => ⟨S5000x1024, .f32⟩
  | .hbm, ⟨20, _⟩ => ⟨S5000x1024, .f32⟩
  | .hbm, ⟨21, _⟩ => ⟨S1x1024, .f32⟩
  | .hbm, ⟨22, _⟩ => ⟨S5000x1024, .f32⟩
  | .hbm, ⟨23, _⟩ => ⟨S5000x1024, .f32⟩
  | .hbm, ⟨24, _⟩ => ⟨S1x1024, .f32⟩
  | .hbm, ⟨25, _⟩ => ⟨S5000x1024, .f32⟩
  | .hbm, ⟨26, _⟩ => ⟨S5000x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S5000x1024, .f32⟩
  | .hbm, ⟨33, _⟩ => ⟨S5000x1024, .f32⟩
  | .hbm, ⟨34, _⟩ => ⟨S1x1024, .f32⟩
  | .hbm, ⟨35, _⟩ => ⟨S5000x1024, .f32⟩
  | .hbm, ⟨36, _⟩ => ⟨S5000x1024, .f32⟩
  | .hbm, ⟨37, _⟩ => ⟨S_, .f32⟩
  | .hbm, ⟨38, _⟩ => ⟨S5000x1024, .f32⟩
  | .hbm, ⟨39, _⟩ => ⟨S5000x1024, .f32⟩
  | .hbm, ⟨40, _⟩ => ⟨S1024x1024, .f32⟩
  | .hbm, ⟨41, _⟩ => ⟨S5000x1024, .f32⟩
  | .hbm, ⟨42, _⟩ => ⟨S1x1024, .f32⟩
  | .hbm, ⟨43, _⟩ => ⟨S5000x1024, .f32⟩
  | .hbm, ⟨44, _⟩ => ⟨S5000x1024, .f32⟩
  | .hbm, ⟨45, _⟩ => ⟨S1x1024, .f32⟩
  | .hbm, ⟨46, _⟩ => ⟨S5000x1024, .f32⟩
  | .hbm, ⟨47, _⟩ => ⟨S5000x1024, .f32⟩
  | .hbm, ⟨48, _⟩ => ⟨S1x1024, .f32⟩
  | .hbm, ⟨49, _⟩ => ⟨S5000x1024, .f32⟩
  | .hbm, ⟨50, _⟩ => ⟨S5000x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024, .f32⟩
  | .hbm, ⟨55, _⟩ => ⟨S1x1024, .f32⟩
  | .hbm, ⟨56, _⟩ => ⟨S5000x1024, .f32⟩
  | .hbm, ⟨57, _⟩ => ⟨S5000x1024, .f32⟩
  | .hbm, ⟨58, _⟩ => ⟨S1x1024, .f32⟩
  | .hbm, ⟨59, _⟩ => ⟨S5000x1024, .f32⟩
  | .hbm, ⟨60, _⟩ => ⟨S5000x1024, .f32⟩
  | .hbm, ⟨61, _⟩ => ⟨S_, .f32⟩
  | .hbm, ⟨62, _⟩ => ⟨S5000x1024, .f32⟩
  | .hbm, ⟨63, _⟩ => ⟨S5000x1024, .f32⟩
  | .hbm, ⟨64, _⟩ => ⟨S5000x81, .f32⟩
  | .hbm, ⟨65, _⟩ => ⟨S1x81, .f32⟩
  | .hbm, ⟨66, _⟩ => ⟨S5000x81, .f32⟩
  | .hbm, ⟨67, _⟩ => ⟨S5000x81, .f32⟩
  | .hbm, ⟨68, _⟩ => ⟨S_, .f32⟩
  | .hbm, ⟨69, _⟩ => ⟨S5000, .f32⟩
  | .hbm, ⟨70, _⟩ => ⟨S_, .f32⟩
  | .hbm, ⟨71, _⟩ => ⟨S5000, .f32⟩
  | .hbm, ⟨72, _⟩ => ⟨S5000, .f32⟩
  | .hbm, ⟨73, _⟩ => ⟨S5000x1, .f32⟩
  | .hbm, ⟨74, _⟩ => ⟨S5000x81, .f32⟩
  | .hbm, ⟨75, _⟩ => ⟨S5000x81, .f32⟩
  | .hbm, ⟨76, _⟩ => ⟨S5000x81, .f32⟩
  | .hbm, ⟨77, _⟩ => ⟨S_, .f32⟩
  | .hbm, ⟨78, _⟩ => ⟨S5000, .f32⟩
  | .hbm, ⟨79, _⟩ => ⟨S5000x1, .f32⟩
  | .hbm, ⟨80, _⟩ => ⟨S5000x81, .f32⟩
  | .hbm, ⟨81, _⟩ => ⟨S5000x81, .f32⟩
  | .hbm, ⟨82, _⟩ => ⟨S5000x324, .f32⟩
  | .hbm, ⟨83, _⟩ => ⟨S1x324, .f32⟩
  | .hbm, ⟨84, _⟩ => ⟨S5000x324, .f32⟩
  | .hbm, ⟨85, _⟩ => ⟨S5000x324, .f32⟩
  | .hbm, ⟨86, _⟩ => ⟨S5000x81x4, .f32⟩
  | _, _ => ⟨S5000x7x7x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_cst_2 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Proof.Norm.lean ====
/-
  Scalars over the extended reals: the inference batch norm of one element written as the textbook does (subtract the
  mean, scale, divide by the root of the variance, shift) and as one multiply-add with coefficients made beforehand,
  and the equality of the two where the bias, the scale and the mean are finite and the variance is not negative.
-/
module

public import Idealize.ShloMosaic.PureOps.Ideal
public import Idealize.ShloMosaic.PureOps.Ideal.Laws

@[expose] public section

noncomputable section

namespace Cert.DetHead

open Idealize.ShloMosaic

/-- The constant added to the variance before its root is taken. -/
def eps : EReal := Ideal.ofBits .f32 0x3A83126F#32

/-- The constant is a positive real number. -/
theorem eps_pos : ∃ e : ℝ, 0 < e ∧ eps = (e : EReal) := by
  unfold eps Ideal.ofBits Ideal.ieee
  refine ⟨_, ?_, by
    dsimp only
    rw [if_neg (by decide), if_neg (by decide)]⟩
  rw [if_neg (by decide)]
  positivity

/-- A value that is neither infinity, given by what the comparison of its magnitude with infinity says. -/
def Fin' (x : EReal) : Prop := x ≠ ⊤ ∧ x ≠ ⊥

/-- The scale folded into one factor: the learned scale over the root of the variance. -/
def gain (g v : EReal) : EReal := g * Ideal.rsqrt (v + eps)

/-- The norm as one multiply-add: the element times the folded scale, plus the folded shift. -/
def folded (b g be mn v y : EReal) : EReal := y * gain g v + (gain g v * (b - mn) + be)

/-- The norm of `y + b` as the textbook writes it. -/
def plain (b g be mn v y : EReal) : EReal := Ideal.div (g * ((y + b) - mn)) (Ideal.sqrt (v + eps)) + be

/-- A real factor distributes over the sum of any extended real and a real. -/
theorem add_coe_mul (y : EReal) (c s : ℝ) : (y + (c : EReal)) * (s : EReal) = y * (s : EReal) + ((c * s : ℝ) : EReal) := by
  induction y using EReal.rec with
  | bot =>
    rw [EReal.bot_add]
    rcases lt_trichotomy s 0 with h | h | h
    · rw [EReal.bot_mul_coe_of_neg h, EReal.top_add_coe]
    · subst h; simp
    · rw [EReal.bot_mul_coe_of_pos h, EReal.bot_add]
  | top =>
    rw [EReal.top_add_coe]
    rcases lt_trichotomy s 0 with h | h | h
    · rw [EReal.top_mul_coe_of_neg h, EReal.bot_add]
    · subst h; simp
    · rw [EReal.top_mul_coe_of_pos h, EReal.top_add_coe]
  | coe y =>
    rw [← EReal.coe_add, ← EReal.coe_mul, ← EReal.coe_mul, ← EReal.coe_add]
    congr 1; ring

/-- The two writings of the norm agree, whatever the element, where the bias, the scale and the mean are finite and the
    variance is not negative. -/
theorem folded_eq_plain {b g mn v : EReal} (be y : EReal) (hb : Fin' b) (hg : Fin' g) (hm : Fin' mn) (hv : 0 ≤ v) :
    folded b g be mn v y = plain b g be mn v y := by
  obtain ⟨e, he, hE⟩ := eps_pos
  lift b to ℝ using hb
  lift g to ℝ using hg
  lift mn to ℝ using hm
  unfold folded plain gain
  rw [hE]
  have hyc : (y + (b : EReal)) - (mn : EReal) = y + ((b - mn : ℝ) : EReal) := by
    rw [sub_eq_add_neg, add_assoc, ← sub_eq_add_neg, ← EReal.coe_sub]
  rw [hyc, ← EReal.coe_sub]
  induction v using EReal.rec with
  | bot => exact absurd hv (by simp)
  | top =>
    rw [EReal.top_add_coe]
    show y * ((g : EReal) * 0) + ((g : EReal) * 0 * _ + be) = Ideal.div _ ⊤ + be
    unfold Ideal.div
    rw [if_neg EReal.top_ne_zero, EReal.inv_top]
    simp
  | coe v =>
    have hv' : 0 ≤ v := by exact_mod_cast hv
    have hw : 0 < v + e := by linarith
    have hs : 0 < Real.sqrt (v + e) := Real.sqrt_pos.mpr hw
    rw [← EReal.coe_add]
    have h1 : Ideal.rsqrt ((v + e : ℝ) : EReal) = (((Real.sqrt (v + e))⁻¹ : ℝ) : EReal) := by
      show (if v + e < 0 then ⊥ else if v + e = 0 then ⊤ else (((Real.sqrt (v + e))⁻¹ : ℝ) : EReal)) = _
      rw [if_neg hw.le.not_gt, if_neg hw.ne']
    have h2 : Ideal.sqrt ((v + e : ℝ) : EReal) = ((Real.sqrt (v + e) : ℝ) : EReal) := by
      show (if v + e < 0 then ⊥ else ((Real.sqrt (v + e) : ℝ) : EReal)) = _
      rw [if_neg hw.le.not_gt]
    have hr : (g : EReal) * (y + ((b - mn : ℝ) : EReal)) * ((1 / Real.sqrt (v + e) : ℝ) : EReal)
        = y * ((g * (Real.sqrt (v + e))⁻¹ : ℝ) : EReal) + (((b - mn) * (g * (Real.sqrt (v + e))⁻¹) : ℝ) : EReal) := by
      rw [mul_comm (g : EReal), mul_assoc, ← EReal.coe_mul, one_div, add_coe_mul]
    rw [h1, h2, Ideal.div_coe hs.ne', hr, ← EReal.coe_mul, ← EReal.coe_mul, add_assoc, mul_comm (b - mn)]

end Cert.DetHead

end
-- ==== Proof.Spec.lean ====
/-
  The detection head as a function of its arrays, read at a row and a channel: the 7×7 window contraction, a batch norm
  and a rectifier, a second contraction with its norm and rectifier, the class scores, their softmax and the box offsets.
  The batch norm is a parameter, so the same text speaks of the head whose norm is folded and of the one whose norm is not.
-/
module

public import proofs.«01_k».proof.Proof.Norm
public import Idealize.ShloMosaic.Lib.Pointwise

@[expose] public section

noncomputable section

namespace Cert.DetHead

open Idealize.ShloMosaic

/-- The shape of a vector. -/
abbrev V1 (a : Nat) : Type := (⟨1, ![a]⟩ : Shape).Idx → EReal
/-- The shape of a matrix. -/
abbrev V2 (a b : Nat) : Type := (⟨2, ![a, b]⟩ : Shape).Idx → EReal
/-- The shape of an array of four axes. -/
abbrev V4 (a b c d : Nat) : Type := (⟨4, ![a, b, c, d]⟩ : Shape).Idx → EReal

/-- A batch norm of `y + b`, of the bias, the scale, the shift, the mean, the variance and `y`. -/
abbrev NormFn : Type := EReal → EReal → EReal → EReal → EReal → EReal → EReal

/-- Row `n`'s 7×7 window of 256 channels against the weights of output channel `o`. -/
def patch (X : V4 5000 7 7 256) (W : V4 7 7 256 1024) (n : Fin 5000) (o : Fin 1024) : EReal :=
  ∑ h : Fin 7, ∑ w : Fin 7, ∑ c : Fin 256, X (ix4 n h w c) * W (ix4 h w c o)

/-- The first layer at a row and a channel. -/
def layer1 (N : NormFn) (X : V4 5000 7 7 256) (W : V4 7 7 256 1024) (b g be mn v : V1 1024) (n : Fin 5000) (o : Fin 1024) : EReal :=
  max (N (b (ix1 o)) (g (ix1 o)) (be (ix1 o)) (mn (ix1 o)) (v (ix1 o)) (patch X W n o)) 0

/-- The second layer at a row and a channel, of the first layer's values. -/
def layer2 (N : NormFn) (y : Fin 5000 → Fin 1024 → EReal) (W : V4 1 1 1024 1024) (b g be mn v : V1 1024) (n : Fin 5000) (o : Fin 1024) : EReal :=
  max (N (b (ix1 o)) (g (ix1 o)) (be (ix1 o)) (mn (ix1 o)) (v (ix1 o)) (∑ k : Fin 1024, y n k * W (ix4 0 0 k o))) 0

/-- The linear map on top, at a row and a column: the class scores, and the box offsets. -/
def top {q : Nat} (y : Fin 5000 → Fin 1024 → EReal) (W : V2 1024 q) (b : V1 q) (n : Fin 5000) (j : Fin q) : EReal :=
  (∑ k : Fin 1024, y n k * W (ix2 k j)) + b (ix1 j)

/-- The greatest of 81 scores. -/
def peak (L : Fin 81 → EReal) : EReal := Finset.univ.fold max ⊥ L

/-- The softmax of 81 scores, the greatest taken away first. -/
def soft (L : Fin 81 → EReal) (j : Fin 81) : EReal :=
  Ideal.div (Ideal.exp (L j - peak L)) (∑ k : Fin 81, Ideal.exp (L k - peak L))

/-- The pattern of minus infinity is the least extended real. -/
theorem neg_inf : Ideal.ofBits .f32 0xFF800000#32 = (⊥ : EReal) := by
  show Ideal.ieee 8 23 0xFF800000#32 = ⊥
  unfold Ideal.ieee
  rw [if_pos (by decide), if_pos (by decide), if_pos (by decide)]

/-- The pattern of infinity is the greatest extended real. -/
theorem pos_inf : Ideal.ofBits .f32 0x7F800000#32 = (⊤ : EReal) := by
  show Ideal.ieee 8 23 0x7F800000#32 = ⊤
  unfold Ideal.ieee
  rw [if_pos (by decide), if_pos (by decide), if_neg (by decide)]

/-- The first layers agree where the channel parameters are such that the two norms agree. -/
theorem layer1_eq (X : V4 5000 7 7 256) (W : V4 7 7 256 1024) (b g be mn v : V1 1024)
    (h : ∀ o : Fin 1024, Fin' (b (ix1 o)) ∧ Fin' (g (ix1 o)) ∧ Fin' (mn (ix1 o)) ∧ 0 ≤ v (ix1 o)) :
    layer1 folded X W b g be mn v = layer1 plain X W b g be mn v := by
  funext n o
  unfold layer1
  rw [folded_eq_plain _ _ (h o).1 (h o).2.1 (h o).2.2.1 (h o).2.2.2]

/-- So do the second layers, on the same first layer. -/
theorem layer2_eq (y : Fin 5000 → Fin 1024 → EReal) (W : V4 1 1 1024 1024) (b g be mn v : V1 1024)
    (h : ∀ o : Fin 1024, Fin' (b (ix1 o)) ∧ Fin' (g (ix1 o)) ∧ Fin' (mn (ix1 o)) ∧ 0 ≤ v (ix1 o)) :
    layer2 folded y W b g be mn v = layer2 plain y W b g be mn v := by
  funext n o
  unfold layer2
  rw [folded_eq_plain _ _ (h o).1 (h o).2.1 (h o).2.2.1 (h o).2.2.2]

end Cert.DetHead

end
-- ==== Proof.Pure.lean ====
/-
  The kernel's arithmetic read at a row and a column: each vector expression of the body as the scalar it holds there.
-/
module

public import proofs.«01_k».proof.Proof.Spec
public import proofs.«01_k».proof.Proof.Gen.KernelIdeal.Skeleton

@[expose] public section

set_option maxRecDepth 16384

noncomputable section

namespace Cert.DetHead.Pure

open Idealize.ShloMosaic Cert.KernelIdeal Cert.KernelIdeal.Gen

/-- A plane of the input block, as a matrix: the first of the seven. -/
theorem pay6_apply (v : Vec Ideal S1x1x1000x256 .f32) (r : Fin 1000) (q : Fin 256) : k0_pay6 v (ix2 r q) = v (ix4 0 0 r q) := by
  pointwise [k0_pay6]

/-- The second plane as a matrix. -/
theorem pay7_apply (v : Vec Ideal S1x1x1000x256 .f32) (r : Fin 1000) (q : Fin 256) : k0_pay7 v (ix2 r q) = v (ix4 0 0 r q) := by
  pointwise [k0_pay7]

/-- The third plane as a matrix. -/
theorem pay8_apply (v : Vec Ideal S1x1x1000x256 .f32) (r : Fin 1000) (q : Fin 256) : k0_pay8 v (ix2 r q) = v (ix4 0 0 r q) := by
  pointwise [k0_pay8]

/-- The fourth plane as a matrix. -/
theorem pay9_apply (v : Vec Ideal S1x1x1000x256 .f32) (r : Fin 1000) (q : Fin 256) : k0_pay9 v (ix2 r q) = v (ix4 0 0 r q) := by
  pointwise [k0_pay9]

/-- The fifth plane as a matrix. -/
theorem pay11_apply (v : Vec Ideal S1x1x1000x256 .f32) (r : Fin 1000) (q : Fin 256) : k0_pay11 (k0_pay10 v) (ix2 r q) = v (ix4 0 0 r q) := by
  pointwise [k0_pay11, k0_pay10]

/-- The sixth plane as a matrix. -/
theorem pay12_apply (v : Vec Ideal S1x1x1000x256 .f32) (r : Fin 1000) (q : Fin 256) : k0_pay12 v (ix2 r q) = v (ix4 0 0 r q) := by
  pointwise [k0_pay12]

/-- The seventh plane as a matrix. -/
theorem pay13_apply (v : Vec Ideal S1x1x1000x256 .f32) (r : Fin 1000) (q : Fin 256) : k0_pay13 v (ix2 r q) = v (ix4 0 0 r q) := by
  pointwise [k0_pay13]

/-- The first window row's product: it starts the accumulator. -/
theorem pay15_apply (x : Vec Ideal S1000x1792 .bf16) (w : Vec Ideal S1x1792x1024 .bf16) (r : Fin 1000) (o : Fin 1024) :
    k0_pay15 x w (ix2 r o) = ∑ j : Fin 1792, x (ix2 r j) * w (ix3 0 j o) := by
  pointwise [k0_pay15, k0_pay14]

/-- A later window row's product added to the accumulator. -/
theorem pay16_apply (x : Vec Ideal S1000x1792 .bf16) (w : Vec Ideal S1x1792x1024 .bf16) (a : Vec Ideal S1000x1024 .f32) (r : Fin 1000) (o : Fin 1024) :
    k0_pay16 x w a (ix2 r o) = a (ix2 r o) + ∑ j : Fin 1792, x (ix2 r j) * w (ix3 0 j o) := by
  pointwise [k0_pay16, k0_pay14]

/-- The two folded layers after the convolution. -/
theorem pay3_apply (a : Vec Ideal S1000x1024 .f32) (s1 t1 : Vec Ideal S1x1024 .f32) (w2 : Vec Ideal S1024x1024 .bf16) (s2 t2 : Vec Ideal S1x1024 .f32)
    (r : Fin 1000) (o : Fin 1024) :
    k0_pay3 a s1 t1 w2 s2 t2 (ix2 r o)
      = max ((∑ k : Fin 1024, max (a (ix2 r k) * s1 (ix2 0 k) + t1 (ix2 0 k)) 0 * w2 (ix2 k o)) * s2 (ix2 0 o) + t2 (ix2 0 o)) 0 := by
  pointwise [k0_pay3]

/-- The class scores. -/
theorem pay4_apply (a : Vec Ideal S1000x1024 .f32) (s1 t1 : Vec Ideal S1x1024 .f32) (w2 : Vec Ideal S1024x1024 .bf16) (s2 t2 : Vec Ideal S1x1024 .f32)
    (wc : Vec Ideal S1024x81 .bf16) (bc : Vec Ideal S1x81 .f32) (r : Fin 1000) (j : Fin 81) :
    k0_pay4 a s1 t1 w2 s2 t2 wc bc (ix2 r j) = (∑ k : Fin 1024, k0_pay3 a s1 t1 w2 s2 t2 (ix2 r k) * wc (ix2 k j)) + bc (ix2 0 j) := by
  pointwise [k0_pay4]

/-- The greatest score of a row, kept as a column. -/
theorem pay5_apply (a : Vec Ideal S1000x1024 .f32) (s1 t1 : Vec Ideal S1x1024 .f32) (w2 : Vec Ideal S1024x1024 .bf16) (s2 t2 : Vec Ideal S1x1024 .f32)
    (wc : Vec Ideal S1024x81 .bf16) (bc : Vec Ideal S1x81 .f32) (r : Fin 1000) :
    k0_pay5 a s1 t1 w2 s2 t2 wc bc (ix2 r 0) = peak fun j => k0_pay4 a s1 t1 w2 s2 t2 wc bc (ix2 r j) := by
  unfold peak
  pointwise [k0_pay5, neg_inf]

/-- The exponentials of the scores less a column, over their row sum. -/
theorem pay1_apply (L : Vec Ideal S1000x81 .f32) (p : Vec Ideal S1000x1 .f32) (r : Fin 1000) (j : Fin 81) :
    k0_pay1 (F := Ideal) L p (ix2 r j)
      = Ideal.div (Ideal.exp (L (ix2 r j) - p (ix2 r 0))) (∑ k : Fin 81, Ideal.exp (L (ix2 r k) - p (ix2 r 0))) := by
  pointwise [k0_pay1]

/-- The softmax of the scores. -/
theorem soft_apply (a : Vec Ideal S1000x1024 .f32) (s1 t1 : Vec Ideal S1x1024 .f32) (w2 : Vec Ideal S1024x1024 .bf16) (s2 t2 : Vec Ideal S1x1024 .f32)
    (wc : Vec Ideal S1024x81 .bf16) (bc : Vec Ideal S1x81 .f32) (r : Fin 1000) (j : Fin 81) :
    k0_pay1 (F := Ideal) (k0_pay4 a s1 t1 w2 s2 t2 wc bc) (k0_pay5 a s1 t1 w2 s2 t2 wc bc) (ix2 r j)
      = soft (fun j => k0_pay4 a s1 t1 w2 s2 t2 wc bc (ix2 r j)) j := by
  rw [pay1_apply, pay5_apply]; rfl

/-- The box offsets. -/
theorem pay2_apply (y : Vec Ideal S1000x1024 .bf16) (wo : Vec Ideal S1024x324 .bf16) (bo : Vec Ideal S1x324 .f32) (r : Fin 1000) (j : Fin 324) :
    k0_pay2 y wo bo (ix2 r j) = (∑ k : Fin 1024, y (ix2 r k) * wo (ix2 k j)) + bo (ix2 0 j) := by
  pointwise [k0_pay2]

end Cert.DetHead.Pure
-- ==== Proof.Block.lean ====
/-
  What one grid point of the kernel leaves, of the blocks it reads: the window row's product in the accumulator, and at the
  last window row the three outputs.
-/
module

public import proofs.«01_k».proof.Proof.Pure
public import proofs.«01_k».proof.Proof.Gen.KernelIdeal.Frame

@[expose] public section

set_option maxRecDepth 16384

noncomputable section

namespace Cert.DetHead.Block

open Idealize.ShloMosaic Idealize.ShloMosaic.TcCoe Idealize.ShloMosaic.Tactic Idealize.SL.Sem
open Idealize.ShloMosaic.Pipeline (Dat)
open Cert.KernelIdeal Cert.KernelIdeal.Gen

variable (m : (ℓ : Loc nD τ sig) → Buf (Elt Ideal) ℓ) (c : Dev nD) (t : Fin cfg0.N)

/-- The corner of a whole matrix. -/
theorem hz : (![0, 0] : Fin 2 → Nat) = fun _ => 0 := funext fun a => by fin_cases a <;> rfl

/-- The window row of a grid point. -/
def krow : Fin 7 := ⟨t.val % 7, Nat.mod_lt _ (by decide)⟩

/-- The second coordinate of a grid point is its window row. -/
theorem coord1 : (grid0.coords t 1).val = t.val % 7 := by
  revert t
  show ∀ t : Fin 35, (grid0.coords t 1).val = t.val % 7
  decide +kernel

/-- The start of the weight slab a grid point reads, as a number. -/
theorem slab_start : (Scalar.indexCast (BitVec.ofNat 32 (grid0.coords t 1).val)).toNat = t.val % 7 := by
  revert t
  show ∀ t : Fin 35, (Scalar.indexCast (BitVec.ofNat 32 (grid0.coords t 1).val)).toNat = t.val % 7
  decide +kernel

/-- Under the last plane stored, the row holds that plane. -/
theorem plane_hit (n : Nat) (inb : ∀ a, (![0, n] : Fin 2 → Nat) a + S1000x256.size a ≤ S1000x1792.size a) (P : Vec Ideal S1000x256 .bf16)
    (L : List (View.Piece (Elt Ideal) S1000x1792 .bf16)) (r : Fin 1000) (q : Fin 256) (j : Fin 1792) (hj : j.val = n + q.val) :
    View.canon (Val := Elt Ideal) ((⟨Rect.unit ![0, n] S1000x256.size inb, P⟩ : View.Piece (Elt Ideal) S1000x1792 .bf16) :: L) (ix2 r j) = P (ix2 r q) := by
  have e : (Rect.unit ![0, n] S1000x256.size inb : Rect S1000x1792).emb (ix2 r q) = ix2 r j := by
    funext a
    fin_cases a
    · exact Fin.ext (show 0 + 1 * r.val = r.val by omega)
    · exact Fin.ext (show n + 1 * q.val = j.val by omega)
  rw [← e]
  exact View.canon_cons_emb _ _ _ _

/-- Off the last plane stored, the row holds the earlier ones. -/
theorem plane_skip (n : Nat) (inb : ∀ a, (![0, n] : Fin 2 → Nat) a + S1000x256.size a ≤ S1000x1792.size a) (P : Vec Ideal S1000x256 .bf16)
    (L : List (View.Piece (Elt Ideal) S1000x1792 .bf16)) (r : Fin 1000) (j : Fin 1792) (hj : j.val < n) :
    View.canon (Val := Elt Ideal) ((⟨Rect.unit ![0, n] S1000x256.size inb, P⟩ : View.Piece (Elt Ideal) S1000x1792 .bf16) :: L) (ix2 r j)
      = View.canon (Val := Elt Ideal) L (ix2 r j) := by
  refine View.canon_cons_of_not_mem _ _ fun hm => ?_
  have h1 : n ≤ j.val := ((Rect.mem_set_unit (inb := inb)).mp hm 1).1
  omega

/-- The input's seven planes side by side, read at a plane and a channel. -/
theorem cat_read (v : View sig .tc .vmem S1000x1792 .bf16) (P0 P1 P2 P3 P4 P5 P6 : Vec Ideal S1000x256 .bf16) (r : Fin 1000) (w : Fin 7) (q : Fin 256) (z : EReal)
    (e0 : w = 0 → P0 (ix2 r q) = z) (e1 : w = 1 → P1 (ix2 r q) = z) (e2 : w = 2 → P2 (ix2 r q) = z) (e3 : w = 3 → P3 (ix2 r q) = z) (e4 : w = 4 → P4 (ix2 r q) = z) (e5 : w = 5 → P5 (ix2 r q) = z) (e6 : w = 6 → P6 (ix2 r q) = z) :
    v.readCov (Val := Elt Ideal)
        ([⟨Rect.unit ![0, 1536] S1000x256.size inb_S1000x1792_S1000x256_0_1536, P6⟩,
          ⟨Rect.unit ![0, 1280] S1000x256.size inb_S1000x1792_S1000x256_0_1280, P5⟩,
          ⟨Rect.unit ![0, 1024] S1000x256.size inb_S1000x1792_S1000x256_0_1024, P4⟩,
          ⟨Rect.unit ![0, 768] S1000x256.size inb_S1000x1792_S1000x256_0_768, P3⟩,
          ⟨Rect.unit ![0, 512] S1000x256.size inb_S1000x1792_S1000x256_0_512, P2⟩,
          ⟨Rect.unit ![0, 256] S1000x256.size inb_S1000x1792_S1000x256_0_256, P1⟩,
          ⟨Rect.unit ![0, 0] S1000x256.size inb_S1000x1792_S1000x256_0_0, P0⟩] : List (View.Piece (Elt Ideal) S1000x1792 .bf16))
        (Rect.unit ![0, 0] S1000x1792.size inb_S1000x1792_S1000x1792_0_0).toLoadRect (ix2 r ⟨w.val * 256 + q.val, by omega⟩) = z := by
  rw [View.readCov_eq_canon']
  have ew : ∀ j, (Rect.unit ![0, 0] S1000x1792.size inb_S1000x1792_S1000x1792_0_0).toLoadRect.idx (ix2 r j) = ix2 r j := by
    intro j
    funext a
    fin_cases a
    · exact Fin.ext (show 0 + 1 * r.val = r.val by omega)
    · exact Fin.ext (show 0 + 1 * j.val = j.val by omega)
  dsimp only
  rw [ew]
  have hq := q.isLt
  by_cases h6 : w = 6
  · subst h6
    exact (plane_hit _ _ _ _ r q _ rfl).trans (e6 rfl)
  have k6 : w.val < 6 := by have := w.isLt; have : w.val ≠ 6 := fun h => h6 (Fin.ext h); omega
  rw [plane_skip _ _ _ _ _ _ (by show w.val * 256 + q.val < 1536; omega)]
  by_cases h5 : w = 5
  · subst h5
    exact (plane_hit _ _ _ _ r q _ rfl).trans (e5 rfl)
  have k5 : w.val < 5 := by have : w.val ≠ 5 := fun h => h5 (Fin.ext h); omega
  rw [plane_skip _ _ _ _ _ _ (by show w.val * 256 + q.val < 1280; omega)]
  by_cases h4 : w = 4
  · subst h4
    exact (plane_hit _ _ _ _ r q _ rfl).trans (e4 rfl)
  have k4 : w.val < 4 := by have : w.val ≠ 4 := fun h => h4 (Fin.ext h); omega
  rw [plane_skip _ _ _ _ _ _ (by show w.val * 256 + q.val < 1024; omega)]
  by_cases h3 : w = 3
  · subst h3
    exact (plane_hit _ _ _ _ r q _ rfl).trans (e3 rfl)
  have k3 : w.val < 3 := by have : w.val ≠ 3 := fun h => h3 (Fin.ext h); omega
  rw [plane_skip _ _ _ _ _ _ (by show w.val * 256 + q.val < 768; omega)]
  by_cases h2 : w = 2
  · subst h2
    exact (plane_hit _ _ _ _ r q _ rfl).trans (e2 rfl)
  have k2 : w.val < 2 := by have : w.val ≠ 2 := fun h => h2 (Fin.ext h); omega
  rw [plane_skip _ _ _ _ _ _ (by show w.val * 256 + q.val < 512; omega)]
  by_cases h1 : w = 1
  · subst h1
    exact (plane_hit _ _ _ _ r q _ rfl).trans (e1 rfl)
  have k1 : w = 0 := Fin.ext (by have : w.val ≠ 1 := fun h => h1 (Fin.ext h); show w.val = 0; omega)
  subst k1
  rw [plane_skip _ _ _ _ _ _ (by show 0 * 256 + q.val < 256; omega)]
  exact (plane_hit _ _ _ _ r q _ (by show 0 * 256 + q.val = 0 + q.val; omega)).trans (e0 rfl)

/-- What a load of plane `n` of the input block reads. -/
abbrev plane (M : Memref sig .tc .vmem S1x7x1000x256 .f32) (hM : M.IsWhole) (X : Vec Ideal S1x7x1000x256 .f32) (n : Nat)
    (inb : ∀ a, (![0, n, 0, 0] : Fin 4 → Nat) a + S1x1x1000x256.size a ≤ S1x7x1000x256.size a) : Vec Ideal S1x1x1000x256 .f32 :=
  View.readAt (Elt Ideal) M.view (Rect.unit (s := S1x7x1000x256) ![0, n, 0, 0] S1x1x1000x256.size inb).toLoadRect (hM.unread X)

/-- A plane of the input block, at a row and a channel. -/
theorem plane_apply (M : Memref sig .tc .vmem S1x7x1000x256 .f32) (hM : M.IsWhole) (X : Vec Ideal S1x7x1000x256 .f32) (n : Nat)
    (inb : ∀ a, (![0, n, 0, 0] : Fin 4 → Nat) a + S1x1x1000x256.size a ≤ S1x7x1000x256.size a) (r : Fin 1000) (q : Fin 256) (w : Fin 7) (hw : w.val = n) :
    plane M hM X n inb (ix4 0 0 r q) = X (ix4 0 w r q) := by
  unfold plane
  rw [View.readAt_eq_ld, hM.read_unread]
  show X _ = X _
  congr 1
  funext a
  fin_cases a
  · exact Fin.ext (show 0 + 1 * 0 = 0 by omega)
  · exact Fin.ext (show n + 1 * 0 = w.val by omega)
  · exact Fin.ext (show 0 + 1 * r.val = r.val by omega)
  · exact Fin.ext (show 0 + 1 * q.val = q.val by omega)

/-- A load of one window row's weights, at a position and an output channel. -/
theorem slab_apply (M : Memref sig .tc .vmem S7x1792x1024 .bf16) (hM : M.IsWhole) (W : Vec Ideal S7x1792x1024 .bf16) (st : Fin 3 → Nat)
    (inb : ∀ a, st a + (![1, 1792, 1024] : Fin 3 → Nat) a ≤ S7x1792x1024.size a) (k : Fin 7) (hk : st = ![k.val, 0, 0]) (j : Fin 1792) (o : Fin 1024) :
    (View.readAt (Elt Ideal) M.view (Rect.unit (s := S7x1792x1024) st ![1, 1792, 1024] inb).toLoadRect (hM.unread W) : Vec Ideal S1x1792x1024 .bf16) (ix3 0 j o) = W (ix3 k j o) := by
  subst hk
  rw [View.readAt_eq_ld, hM.read_unread]
  show W _ = W _
  congr 1
  funext a
  fin_cases a
  · exact Fin.ext (show k.val + 1 * 0 = k.val by omega)
  · exact Fin.ext (show 0 + 1 * j.val = j.val by omega)
  · exact Fin.ext (show 0 + 1 * o.val = o.val by omega)

/-- The product of the planes side by side with a window row's weights is the sum over planes and channels. -/
theorem row_product (v : View sig .tc .vmem S1000x1792 .bf16) (M : Memref sig .tc .vmem S1x7x1000x256 .f32) (hM : M.IsWhole) (X : Vec Ideal S1x7x1000x256 .f32)
    (M' : Memref sig .tc .vmem S7x1792x1024 .bf16) (hM' : M'.IsWhole) (W : Vec Ideal S7x1792x1024 .bf16) (st : Fin 3 → Nat)
    (inb : ∀ a, st a + (![1, 1792, 1024] : Fin 3 → Nat) a ≤ S7x1792x1024.size a) (k : Fin 7) (hk : st = ![k.val, 0, 0]) (r : Fin 1000) (o : Fin 1024) :
    (∑ j : Fin 1792, (v.readCov (Val := Elt Ideal)
        ([⟨Rect.unit ![0, 1536] S1000x256.size inb_S1000x1792_S1000x256_0_1536, k0_pay13 (plane M hM X 6 inb_S1x7x1000x256_S1x1x1000x256_0_6_0_0)⟩,
          ⟨Rect.unit ![0, 1280] S1000x256.size inb_S1000x1792_S1000x256_0_1280, k0_pay12 (plane M hM X 5 inb_S1x7x1000x256_S1x1x1000x256_0_5_0_0)⟩,
          ⟨Rect.unit ![0, 1024] S1000x256.size inb_S1000x1792_S1000x256_0_1024, k0_pay11 (k0_pay10 (plane M hM X 4 inb_S1x7x1000x256_S1x1x1000x256_0_4_0_0))⟩,
          ⟨Rect.unit ![0, 768] S1000x256.size inb_S1000x1792_S1000x256_0_768, k0_pay9 (plane M hM X 3 inb_S1x7x1000x256_S1x1x1000x256_0_3_0_0)⟩,
          ⟨Rect.unit ![0, 512] S1000x256.size inb_S1000x1792_S1000x256_0_512, k0_pay8 (plane M hM X 2 inb_S1x7x1000x256_S1x1x1000x256_0_2_0_0)⟩,
          ⟨Rect.unit ![0, 256] S1000x256.size inb_S1000x1792_S1000x256_0_256, k0_pay7 (plane M hM X 1 inb_S1x7x1000x256_S1x1x1000x256_0_1_0_0)⟩,
          ⟨Rect.unit ![0, 0] S1000x256.size inb_S1000x1792_S1000x256_0_0, k0_pay6 (plane M hM X 0 inb_S1x7x1000x256_S1x1x1000x256_0_0_0_0)⟩] : List (View.Piece (Elt Ideal) S1000x1792 .bf16))
        (Rect.unit ![0, 0] S1000x1792.size inb_S1000x1792_S1000x1792_0_0).toLoadRect : Vec Ideal S1000x1792 .bf16) (ix2 r j)
        * (View.readAt (Elt Ideal) M'.view (Rect.unit (s := S7x1792x1024) st ![1, 1792, 1024] inb).toLoadRect (hM'.unread W) : Vec Ideal S1x1792x1024 .bf16) (ix3 0 j o))
      = ∑ w : Fin 7, ∑ q : Fin 256, X (ix4 0 w r q) * W (ix3 k ⟨w.val * 256 + q.val, by omega⟩ o) := by
  rw [Fin.sum_univ_tiles 7 256 rfl]
  refine Finset.sum_congr rfl fun w _ => Finset.sum_congr rfl fun q _ => ?_
  refine Ideal.mul_congr (cat_read v _ _ _ _ _ _ _ r w q _ ?_ ?_ ?_ ?_ ?_ ?_ ?_) (slab_apply M' hM' W st inb k hk _ o)
  · rintro rfl; exact (Pure.pay6_apply _ r q).trans (plane_apply M hM X 0 _ r q 0 rfl)
  · rintro rfl; exact (Pure.pay7_apply _ r q).trans (plane_apply M hM X 1 _ r q 1 rfl)
  · rintro rfl; exact (Pure.pay8_apply _ r q).trans (plane_apply M hM X 2 _ r q 2 rfl)
  · rintro rfl; exact (Pure.pay9_apply _ r q).trans (plane_apply M hM X 3 _ r q 3 rfl)
  · rintro rfl; exact (Pure.pay11_apply _ r q).trans (plane_apply M hM X 4 _ r q 4 rfl)
  · rintro rfl; exact (Pure.pay12_apply _ r q).trans (plane_apply M hM X 5 _ r q 5 rfl)
  · rintro rfl; exact (Pure.pay13_apply _ r q).trans (plane_apply M hM X 6 _ r q 6 rfl)

/-- The block of input a point reads. -/
abbrev bx : Vec Ideal S1x7x1000x256 .f32 := iblk m c 0 t
/-- The convolution's weights at a point. -/
abbrev bw : Vec Ideal S7x1792x1024 .bf16 := iblk m c 1 t

/-- Window row `k`'s product at a point: its seven planes of input against the row's weights. -/
def rowsum (r : Fin 1000) (o : Fin 1024) : EReal :=
  ∑ w : Fin 7, ∑ q : Fin 256, bx m c t (ix4 0 w r q) * bw m c t (ix3 (krow t) ⟨w.val * 256 + q.val, by omega⟩ o)

/-- A load of a whole matrix reads the matrix. -/
theorem whole_load {a b : Nat} {e : EltTy} (M : Memref sig .tc .vmem ⟨2, ![a, b]⟩ e) (hM : M.IsWhole) (X : Vec Ideal ⟨2, ![a, b]⟩ e)
    (inb : ∀ i, (![0, 0] : Fin 2 → Nat) i + (![a, b] : Fin 2 → Nat) i ≤ (⟨2, ![a, b]⟩ : Shape).size i) :
    View.readAt (Elt Ideal) M.view (Rect.unit (s := ⟨2, ![a, b]⟩) ![0, 0] ![a, b] inb).toLoadRect (hM.unread X) = X := by
  rw [View.readAt_eq_ld, hM.read_unread]
  exact View.ld_unit_zero (S := ⟨2, ![a, b]⟩) hz inb X

/-- At the first window row the accumulator holds the row's product. -/
theorem first (h0 : t.val % 7 = 0) (h1 : ¬1 ≤ t.val % 7) (h2 : ¬t.val % 7 = 6) (r : Fin 1000) (o : Fin 1024) :
    (outsAt0 m c t.val t.isLt).2.2.2 (ix2 r o) = rowsum m c t r o := by
  rw [outsAt0_A m c t h0 h1 h2]
  dsimp only
  unfold sout0_A_1
  rw [View.read_writes_eq_canon]
  on_goal 2 => intro y; exact scover0_A_1 ..
  unfold kernelRun0_A
  dsimp only
  sl_unfold_words
  rw [View.canon_unit_zero hz]
  refine (Pure.pay15_apply _ _ r o).trans ?_
  unfold rowsum
  exact row_product _ _ _ _ _ _ _ _ _ (krow t) (by dsimp only; rw [slab_start]; rfl) r o

/-- At a later window row that is not the last the accumulator holds what it held and the row's product. -/
theorem middle (h0 : ¬t.val % 7 = 0) (h1 : 1 ≤ t.val % 7) (h2 : ¬t.val % 7 = 6) (r : Fin 1000) (o : Fin 1024) :
    (outsAt0 m c t.val t.isLt).2.2.2 (ix2 r o) = (outsAt0 m c (t.val - 1) (Nat.lt_of_le_of_lt (Nat.sub_le _ _) t.isLt)).2.2.2 (ix2 r o) + rowsum m c t r o := by
  rw [outsAt0_B m c t h0 h1 h2]
  dsimp only
  unfold sout0_B_1
  rw [View.read_writes_eq_canon]
  on_goal 2 => intro y; exact scover0_B_1 ..
  unfold kernelRun0_B
  dsimp only
  sl_unfold_words
  rw [View.canon_unit_zero hz]
  refine (Pure.pay16_apply _ _ _ r o).trans ?_
  unfold rowsum
  refine Ideal.add_congr ?_ ?_
  · exact congrFun (whole_load scM0_1 (Memref.isWhole_whole _) _ _) _
  · exact row_product _ _ _ _ _ _ _ _ _ (krow t) (by dsimp only; rw [slab_start]; rfl) r o

/-- At the last window row too. -/
theorem last_acc (h0 : ¬t.val % 7 = 0) (h1 : 1 ≤ t.val % 7) (h2 : t.val % 7 = 6) (r : Fin 1000) (o : Fin 1024) :
    (outsAt0 m c t.val t.isLt).2.2.2 (ix2 r o) = (outsAt0 m c (t.val - 1) (Nat.lt_of_le_of_lt (Nat.sub_le _ _) t.isLt)).2.2.2 (ix2 r o) + rowsum m c t r o := by
  rw [outsAt0_C m c t h0 h1 h2]
  dsimp only
  unfold sout0_C_1
  rw [View.read_writes_eq_canon]
  on_goal 2 => intro y; exact scover0_C_1 ..
  unfold kernelRun0_C
  dsimp only
  sl_unfold_words
  rw [View.canon_unit_zero hz]
  refine (Pure.pay16_apply _ _ _ r o).trans ?_
  unfold rowsum
  refine Ideal.add_congr ?_ ?_
  · exact congrFun (whole_load scM0_1 (Memref.isWhole_whole _) _ _) _
  · exact row_product _ _ _ _ _ _ _ _ _ (krow t) (by dsimp only; rw [slab_start]; rfl) r o

/-- At the last window row the scores' block is the body's score expression of the accumulator. -/
theorem last_logits (h0 : ¬t.val % 7 = 0) (h1 : 1 ≤ t.val % 7) (h2 : t.val % 7 = 6) :
    (outsAt0 m c t.val t.isLt).1 = k0_pay4 (F := Ideal) (outsAt0 m c t.val t.isLt).2.2.2 (iblk m c 2 t) (iblk m c 3 t) (iblk m c 4 t) (iblk m c 5 t) (iblk m c 6 t)
      (iblk m c 7 t) (iblk m c 8 t) := by
  rw [outsAt0_C m c t h0 h1 h2]
  dsimp only
  unfold out0_C_11 sout0_C_1
  rw [View.read_writes_eq_canon, View.read_writes_eq_canon]
  on_goal 2 => intro y; exact scover0_C_1 ..
  on_goal 2 => intro y; exact cover0_C_11 ..
  unfold kernelRun0_C
  dsimp only
  sl_unfold_words
  rw [View.canon_unit_zero hz, View.canon_unit_zero hz, View.readCov_unit_zero _ hz]
  simp only [whole_load]

/-- At the last window row the probabilities' block is the body's softmax of the scores. -/
theorem last_prob (h0 : ¬t.val % 7 = 0) (h1 : 1 ≤ t.val % 7) (h2 : t.val % 7 = 6) :
    (outsAt0 m c t.val t.isLt).2.1 = k0_pay1 (F := Ideal) (k0_pay4 (outsAt0 m c t.val t.isLt).2.2.2 (iblk m c 2 t) (iblk m c 3 t) (iblk m c 4 t) (iblk m c 5 t) (iblk m c 6 t)
      (iblk m c 7 t) (iblk m c 8 t))
      (k0_pay5 (outsAt0 m c t.val t.isLt).2.2.2 (iblk m c 2 t) (iblk m c 3 t) (iblk m c 4 t) (iblk m c 5 t) (iblk m c 6 t)
      (iblk m c 7 t) (iblk m c 8 t)) := by
  rw [outsAt0_C m c t h0 h1 h2]
  dsimp only
  unfold out0_C_12 sout0_C_1
  rw [View.read_writes_eq_canon, View.read_writes_eq_canon]
  on_goal 2 => intro y; exact scover0_C_1 ..
  on_goal 2 => intro y; exact cover0_C_12 ..
  unfold kernelRun0_C
  dsimp only
  sl_unfold_words
  rw [View.canon_unit_zero hz, View.canon_unit_zero hz, View.readCov_unit_zero _ hz]
  simp only [whole_load]

/-- At the last window row the offsets' block is the body's offset expression of the accumulator. -/
theorem last_off (h0 : ¬t.val % 7 = 0) (h1 : 1 ≤ t.val % 7) (h2 : t.val % 7 = 6) :
    (outsAt0 m c t.val t.isLt).2.2.1 = k0_pay2 (F := Ideal) (k0_pay3 (outsAt0 m c t.val t.isLt).2.2.2 (iblk m c 2 t) (iblk m c 3 t) (iblk m c 4 t) (iblk m c 5 t) (iblk m c 6 t))
      (iblk m c 9 t) (iblk m c 10 t) := by
  rw [outsAt0_C m c t h0 h1 h2]
  dsimp only
  unfold out0_C_13 sout0_C_1
  rw [View.read_writes_eq_canon, View.read_writes_eq_canon]
  on_goal 2 => intro y; exact scover0_C_1 ..
  on_goal 2 => intro y; exact cover0_C_13 ..
  unfold kernelRun0_C
  dsimp only
  sl_unfold_words
  rw [View.canon_unit_zero hz, View.canon_unit_zero hz, View.readCov_unit_zero _ hz]
  simp only [whole_load]

end Cert.DetHead.Block
-- ==== Proof.Entry.lean ====
/-
  What the region's input buffers hold when it is entered, of the kernel's arguments: the transposed input, the reshaped
  weights, and the folded norms.
-/
module

public import proofs.«01_k».proof.Proof.Spec
public import proofs.«01_k».proof.Proof.Gen.KernelIdeal.Frame

@[expose] public section

set_option maxRecDepth 16384

noncomputable section

namespace Cert.DetHead.Entry

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The input array. -/
abbrev aX : V4 5000 7 7 256 := m ((c : Thread nD τ).loc main_arg0)
/-- The convolution's weights. -/
abbrev aW1 : V4 7 7 256 1024 := m ((c : Thread nD τ).loc main_arg1)
/-- The convolution's bias. -/
abbrev ab1 : V1 1024 := m ((c : Thread nD τ).loc main_arg2)
/-- The first norm's scale. -/
abbrev ag1 : V1 1024 := m ((c : Thread nD τ).loc main_arg3)
/-- The first norm's shift. -/
abbrev ae1 : V1 1024 := m ((c : Thread nD τ).loc main_arg4)
/-- The first norm's mean. -/
abbrev am1 : V1 1024 := m ((c : Thread nD τ).loc main_arg5)
/-- The first norm's variance. -/
abbrev av1 : V1 1024 := m ((c : Thread nD τ).loc main_arg6)
/-- The second layer's weights. -/
abbrev aW2 : V4 1 1 1024 1024 := m ((c : Thread nD τ).loc main_arg7)
/-- The second layer's bias. -/
abbrev ab2 : V1 1024 := m ((c : Thread nD τ).loc main_arg8)
/-- The second norm's scale. -/
abbrev ag2 : V1 1024 := m ((c : Thread nD τ).loc main_arg9)
/-- The second norm's shift. -/
abbrev ae2 : V1 1024 := m ((c : Thread nD τ).loc main_arg10)
/-- The second norm's mean. -/
abbrev am2 : V1 1024 := m ((c : Thread nD τ).loc main_arg11)
/-- The second norm's variance. -/
abbrev av2 : V1 1024 := m ((c : Thread nD τ).loc main_arg12)
/-- The class weights. -/
abbrev aWc : V2 1024 81 := m ((c : Thread nD τ).loc main_arg13)
/-- The class bias. -/
abbrev abc : V1 81 := m ((c : Thread nD τ).loc main_arg14)
/-- The box weights. -/
abbrev aWo : V2 1024 324 := m ((c : Thread nD τ).loc main_arg15)
/-- The box bias. -/
abbrev abo : V1 324 := m ((c : Thread nD τ).loc main_arg16)

/-- The transposed input. -/
abbrev eX : V4 7 7 5000 256 := V m c main_v0
/-- The convolution's weights, a window row's 7×256 of them on one axis. -/
abbrev eW1 : (⟨3, ![7, 1792, 1024]⟩ : Shape).Idx → EReal := V m c main_v2
/-- The first folded scale. -/
abbrev es1 : V2 1 1024 := V m c main_v21
/-- The first folded shift. -/
abbrev et1 : V2 1 1024 := V m c main_v22
/-- The second layer's weights as a matrix. -/
abbrev eW2 : V2 1024 1024 := V m c main_v4
/-- The second folded scale. -/
abbrev es2 : V2 1 1024 := V m c main_v23
/-- The second folded shift. -/
abbrev et2 : V2 1 1024 := V m c main_v24
/-- The class weights. -/
abbrev eWc : V2 1024 81 := V m c main_v5
/-- The class bias as a row. -/
abbrev ebc : V2 1 81 := V m c main_v25
/-- The box weights. -/
abbrev eWo : V2 1024 324 := V m c main_v6
/-- The box bias as a row. -/
abbrev ebo : V2 1 324 := V m c main_v26

/-- The transposed input at an index. -/
theorem eX_apply (h w : Fin 7) (n : Fin 5000) (q : Fin 256) : eX m c (ix4 h w n q) = aX m c (ix4 n h w q) := by
  unfold eX aX
  dsimp only [V, V0, hostOps0, List.flatten_cons, List.flatten_nil, List.append_nil, List.cons_append, List.nil_append]
  after_results
  pointwise

/-- The reshaped weights at an index. -/
theorem eW1_apply (h w : Fin 7) (q : Fin 256) (o : Fin 1024) (hj : w.val * 256 + q.val < 1792) :
    eW1 m c (ix3 h ⟨w.val * 256 + q.val, hj⟩ o) = aW1 m c (ix4 h w q o) := by
  unfold eW1 aW1
  dsimp only [V, V0, hostOps0, List.flatten_cons, List.flatten_nil, List.append_nil, List.cons_append, List.nil_append]
  after_results
  pointwise

/-- The folded scale of norm 1 at a channel. -/
theorem es1_apply (o : Fin 1024) : es1 m c (ix2 0 o) = gain (ag1 m c (ix1 o)) (av1 m c (ix1 o)) := by
  unfold es1 ag1 av1 gain eps
  dsimp only [V, V0, hostOps0, List.flatten_cons, List.flatten_nil, List.append_nil, List.cons_append, List.nil_append]
  after_results
  pointwise

/-- The folded shift of norm 1 at a channel. -/
theorem et1_apply (o : Fin 1024) : et1 m c (ix2 0 o) = gain (ag1 m c (ix1 o)) (av1 m c (ix1 o)) * (ab1 m c (ix1 o) - am1 m c (ix1 o)) + ae1 m c (ix1 o) := by
  unfold et1 ag1 av1 ab1 am1 ae1 gain eps
  dsimp only [V, V0, hostOps0, List.flatten_cons, List.flatten_nil, List.append_nil, List.cons_append, List.nil_append]
  after_results
  pointwise

/-- The folded scale of norm 2 at a channel. -/
theorem es2_apply (o : Fin 1024) : es2 m c (ix2 0 o) = gain (ag2 m c (ix1 o)) (av2 m c (ix1 o)) := by
  unfold es2 ag2 av2 gain eps
  dsimp only [V, V0, hostOps0, List.flatten_cons, List.flatten_nil, List.append_nil, List.cons_append, List.nil_append]
  after_results
  pointwise

/-- The folded shift of norm 2 at a channel. -/
theorem et2_apply (o : Fin 1024) : et2 m c (ix2 0 o) = gain (ag2 m c (ix1 o)) (av2 m c (ix1 o)) * (ab2 m c (ix1 o) - am2 m c (ix1 o)) + ae2 m c (ix1 o) := by
  unfold et2 ag2 av2 ab2 am2 ae2 gain eps
  dsimp only [V, V0, hostOps0, List.flatten_cons, List.flatten_nil, List.append_nil, List.cons_append, List.nil_append]
  after_results
  pointwise

/-- The second layer's weights at an index. -/
theorem eW2_apply (k o : Fin 1024) : eW2 m c (ix2 k o) = aW2 m c (ix4 0 0 k o) := by
  unfold eW2 aW2
  dsimp only [V, V0, hostOps0, List.flatten_cons, List.flatten_nil, List.append_nil, List.cons_append, List.nil_append]
  after_results
  pointwise

/-- The class weights at an index. -/
theorem eWc_apply (k : Fin 1024) (j : Fin 81) : eWc m c (ix2 k j) = aWc m c (ix2 k j) := by
  unfold eWc aWc
  dsimp only [V, V0, hostOps0, List.flatten_cons, List.flatten_nil, List.append_nil, List.cons_append, List.nil_append]
  after_results
  pointwise

/-- The box weights at an index. -/
theorem eWo_apply (k : Fin 1024) (j : Fin 324) : eWo m c (ix2 k j) = aWo m c (ix2 k j) := by
  unfold eWo aWo
  dsimp only [V, V0, hostOps0, List.flatten_cons, List.flatten_nil, List.append_nil, List.cons_append, List.nil_append]
  after_results
  pointwise

/-- The class bias at a column. -/
theorem ebc_apply (j : Fin 81) : ebc m c (ix2 0 j) = abc m c (ix1 j) := by
  unfold ebc abc
  dsimp only [V, V0, hostOps0, List.flatten_cons, List.flatten_nil, List.append_nil, List.cons_append, List.nil_append]
  after_results
  pointwise

/-- The box bias at a column. -/
theorem ebo_apply (j : Fin 324) : ebo m c (ix2 0 j) = abo m c (ix1 j) := by
  unfold ebo abo
  dsimp only [V, V0, hostOps0, List.flatten_cons, List.flatten_nil, List.append_nil, List.cons_append, List.nil_append]
  after_results
  pointwise

end Cert.DetHead.Entry
-- ==== Proof.Acc.lean ====
/-
  The blocks a grid point reads, of the kernel's arguments; the accumulator after each point, a partial sum of the window
  contraction; and the three blocks the last window row leaves, the head's results on the block's rows.
-/
module

public import proofs.«01_k».proof.Proof.Block
public import proofs.«01_k».proof.Proof.Entry

@[expose] public section

set_option maxRecDepth 16384

noncomputable section

namespace Cert.DetHead.Acc

open Idealize.ShloMosaic Idealize.ShloMosaic.TcCoe Idealize.ShloMosaic.Tactic Idealize.SL.Sem
open Cert.KernelIdeal Cert.KernelIdeal.Gen Cert.DetHead.Entry Cert.DetHead.Block

variable (m : (ℓ : Loc nD τ sig) → Buf (Elt Ideal) ℓ) (c : Dev nD) (t : Fin cfg0.N)

/-- The grid has 35 points. -/
theorem lt35 : t.val < 35 := lt_of_lt_of_eq t.isLt N_0

/-- Row `r` of the block of rows a point works on. -/
def row (r : Fin 1000) : Fin 5000 := ⟨t.val / 7 * 1000 + r.val, by have := lt35 t; have := r.isLt; omega⟩

/-- The input window's block index. -/
theorem index0 : win0_0.index t = ![t.val % 7, 0, t.val / 7, 0] := by
  revert t
  exact (by decide +kernel : ∀ t : Fin grid0.N, win0_0.index t = ![t.val % 7, 0, t.val / 7, 0])

/-- The block of input at an index. -/
theorem bx_apply (w : Fin 7) (r : Fin 1000) (q : Fin 256) : bx m c t (ix4 0 w r q) = aX m c (ix4 (row t r) (krow t) w q) := by
  rw [← eX_apply]
  unfold bx iblk
  rw [View.read_apply]
  show V m c main_v0 _ = V m c main_v0 _
  have e := index0 t
  congr 1
  funext a
  fin_cases a
  · exact Fin.ext (show win0_0.index t 0 * 1 + 1 * 0 = t.val % 7 by rw [e]; show t.val % 7 * 1 + 1 * 0 = t.val % 7; omega)
  · exact Fin.ext (show win0_0.index t 1 * 7 + 1 * w.val = w.val by rw [e]; show 0 * 7 + 1 * w.val = w.val; omega)
  · exact Fin.ext (show win0_0.index t 2 * 1000 + 1 * r.val = t.val / 7 * 1000 + r.val by rw [e]; show t.val / 7 * 1000 + 1 * r.val = _; omega)
  · exact Fin.ext (show win0_0.index t 3 * 256 + 1 * q.val = q.val by rw [e]; show 0 * 256 + 1 * q.val = q.val; omega)

/-- The weights' window is the whole array at every point. -/
theorem index1 : win0_1.index t = ![0, 0, 0] := by
  revert t
  exact (by decide +kernel : ∀ t : Fin grid0.N, win0_1.index t = ![0, 0, 0])

/-- The weights' block at an index. -/
theorem bw_apply (h : Fin 7) (j : Fin 1792) (o : Fin 1024) : bw m c t (ix3 h j o) = eW1 m c (ix3 h j o) := by
  unfold bw iblk
  rw [View.read_apply]
  show V m c main_v2 _ = V m c main_v2 _
  have e := index1 t
  congr 1
  funext a
  fin_cases a
  · exact Fin.ext (show win0_1.index t 0 * 7 + 1 * h.val = h.val by rw [e]; show 0 * 7 + 1 * h.val = h.val; omega)
  · exact Fin.ext (show win0_1.index t 1 * 1792 + 1 * j.val = j.val by rw [e]; show 0 * 1792 + 1 * j.val = j.val; omega)
  · exact Fin.ext (show win0_1.index t 2 * 1024 + 1 * o.val = o.val by rw [e]; show 0 * 1024 + 1 * o.val = o.val; omega)

/-- Window 2 is a whole matrix at every point. -/
theorem blk2 : iblk m c 2 t = es1 m c := by
  have e : win0_2.index t = ![0, 0] := by
    revert t
    exact (by decide +kernel : ∀ t : Fin grid0.N, win0_2.index t = ![0, 0])
  unfold iblk
  funext i
  rw [View.read_apply]
  show V m c main_v21 _ = V m c main_v21 _
  congr 1
  funext a
  match a with
  | ⟨0, _⟩ => exact Fin.ext (show win0_2.index t 0 * 1 + 1 * (i 0).val = (i 0).val by rw [e]; show 0 * 1 + 1 * (i 0).val = (i 0).val; omega)
  | ⟨1, _⟩ => exact Fin.ext (show win0_2.index t 1 * 1024 + 1 * (i 1).val = (i 1).val by rw [e]; show 0 * 1024 + 1 * (i 1).val = (i 1).val; omega)

/-- Window 3 is a whole matrix at every point. -/
theorem blk3 : iblk m c 3 t = et1 m c := by
  have e : win0_3.index t = ![0, 0] := by
    revert t
    exact (by decide +kernel : ∀ t : Fin grid0.N, win0_3.index t = ![0, 0])
  unfold iblk
  funext i
  rw [View.read_apply]
  show V m c main_v22 _ = V m c main_v22 _
  congr 1
  funext a
  match a with
  | ⟨0, _⟩ => exact Fin.ext (show win0_3.index t 0 * 1 + 1 * (i 0).val = (i 0).val by rw [e]; show 0 * 1 + 1 * (i 0).val = (i 0).val; omega)
  | ⟨1, _⟩ => exact Fin.ext (show win0_3.index t 1 * 1024 + 1 * (i 1).val = (i 1).val by rw [e]; show 0 * 1024 + 1 * (i 1).val = (i 1).val; omega)

/-- Window 4 is a whole matrix at every point. -/
theorem blk4 : iblk m c 4 t = eW2 m c := by
  have e : win0_4.index t = ![0, 0] := by
    revert t
    exact (by decide +kernel : ∀ t : Fin grid0.N, win0_4.index t = ![0, 0])
  unfold iblk
  funext i
  rw [View.read_apply]
  show V m c main_v4 _ = V m c main_v4 _
  congr 1
  funext a
  match a with
  | ⟨0, _⟩ => exact Fin.ext (show win0_4.index t 0 * 1024 + 1 * (i 0).val = (i 0).val by rw [e]; show 0 * 1024 + 1 * (i 0).val = (i 0).val; omega)
  | ⟨1, _⟩ => exact Fin.ext (show win0_4.index t 1 * 1024 + 1 * (i 1).val = (i 1).val by rw [e]; show 0 * 1024 + 1 * (i 1).val = (i 1).val; omega)

/-- Window 5 is a whole matrix at every point. -/
theorem blk5 : iblk m c 5 t = es2 m c := by
  have e : win0_5.index t = ![0, 0] := by
    revert t
    exact (by decide +kernel : ∀ t : Fin grid0.N, win0_5.index t = ![0, 0])
  unfold iblk
  funext i
  rw [View.read_apply]
  show V m c main_v23 _ = V m c main_v23 _
  congr 1
  funext a
  match a with
  | ⟨0, _⟩ => exact Fin.ext (show win0_5.index t 0 * 1 + 1 * (i 0).val = (i 0).val by rw [e]; show 0 * 1 + 1 * (i 0).val = (i 0).val; omega)
  | ⟨1, _⟩ => exact Fin.ext (show win0_5.index t 1 * 1024 + 1 * (i 1).val = (i 1).val by rw [e]; show 0 * 1024 + 1 * (i 1).val = (i 1).val; omega)

/-- Window 6 is a whole matrix at every point. -/
theorem blk6 : iblk m c 6 t = et2 m c := by
  have e : win0_6.index t = ![0, 0] := by
    revert t
    exact (by decide +kernel : ∀ t : Fin grid0.N, win0_6.index t = ![0, 0])
  unfold iblk
  funext i
  rw [View.read_apply]
  show V m c main_v24 _ = V m c main_v24 _
  congr 1
  funext a
  match a with
  | ⟨0, _⟩ => exact Fin.ext (show win0_6.index t 0 * 1 + 1 * (i 0).val = (i 0).val by rw [e]; show 0 * 1 + 1 * (i 0).val = (i 0).val; omega)
  | ⟨1, _⟩ => exact Fin.ext (show win0_6.index t 1 * 1024 + 1 * (i 1).val = (i 1).val by rw [e]; show 0 * 1024 + 1 * (i 1).val = (i 1).val; omega)

/-- Window 7 is a whole matrix at every point. -/
theorem blk7 : iblk m c 7 t = eWc m c := by
  have e : win0_7.index t = ![0, 0] := by
    revert t
    exact (by decide +kernel : ∀ t : Fin grid0.N, win0_7.index t = ![0, 0])
  unfold iblk
  funext i
  rw [View.read_apply]
  show V m c main_v5 _ = V m c main_v5 _
  congr 1
  funext a
  match a with
  | ⟨0, _⟩ => exact Fin.ext (show win0_7.index t 0 * 1024 + 1 * (i 0).val = (i 0).val by rw [e]; show 0 * 1024 + 1 * (i 0).val = (i 0).val; omega)
  | ⟨1, _⟩ => exact Fin.ext (show win0_7.index t 1 * 81 + 1 * (i 1).val = (i 1).val by rw [e]; show 0 * 81 + 1 * (i 1).val = (i 1).val; omega)

/-- Window 8 is a whole matrix at every point. -/
theorem blk8 : iblk m c 8 t = ebc m c := by
  have e : win0_8.index t = ![0, 0] := by
    revert t
    exact (by decide +kernel : ∀ t : Fin grid0.N, win0_8.index t = ![0, 0])
  unfold iblk
  funext i
  rw [View.read_apply]
  show V m c main_v25 _ = V m c main_v25 _
  congr 1
  funext a
  match a with
  | ⟨0, _⟩ => exact Fin.ext (show win0_8.index t 0 * 1 + 1 * (i 0).val = (i 0).val by rw [e]; show 0 * 1 + 1 * (i 0).val = (i 0).val; omega)
  | ⟨1, _⟩ => exact Fin.ext (show win0_8.index t 1 * 81 + 1 * (i 1).val = (i 1).val by rw [e]; show 0 * 81 + 1 * (i 1).val = (i 1).val; omega)

/-- Window 9 is a whole matrix at every point. -/
theorem blk9 : iblk m c 9 t = eWo m c := by
  have e : win0_9.index t = ![0, 0] := by
    revert t
    exact (by decide +kernel : ∀ t : Fin grid0.N, win0_9.index t = ![0, 0])
  unfold iblk
  funext i
  rw [View.read_apply]
  show V m c main_v6 _ = V m c main_v6 _
  congr 1
  funext a
  match a with
  | ⟨0, _⟩ => exact Fin.ext (show win0_9.index t 0 * 1024 + 1 * (i 0).val = (i 0).val by rw [e]; show 0 * 1024 + 1 * (i 0).val = (i 0).val; omega)
  | ⟨1, _⟩ => exact Fin.ext (show win0_9.index t 1 * 324 + 1 * (i 1).val = (i 1).val by rw [e]; show 0 * 324 + 1 * (i 1).val = (i 1).val; omega)

/-- Window 10 is a whole matrix at every point. -/
theorem blk10 : iblk m c 10 t = ebo m c := by
  have e : win0_10.index t = ![0, 0] := by
    revert t
    exact (by decide +kernel : ∀ t : Fin grid0.N, win0_10.index t = ![0, 0])
  unfold iblk
  funext i
  rw [View.read_apply]
  show V m c main_v26 _ = V m c main_v26 _
  congr 1
  funext a
  match a with
  | ⟨0, _⟩ => exact Fin.ext (show win0_10.index t 0 * 1 + 1 * (i 0).val = (i 0).val by rw [e]; show 0 * 1 + 1 * (i 0).val = (i 0).val; omega)
  | ⟨1, _⟩ => exact Fin.ext (show win0_10.index t 1 * 324 + 1 * (i 1).val = (i 1).val by rw [e]; show 0 * 324 + 1 * (i 1).val = (i 1).val; omega)

/-- Window row `h` of a row's contraction, at an output channel. -/
def rowterm (n : Fin 5000) (h : ℕ) (o : Fin 1024) : EReal :=
  if hh : h < 7 then ∑ w : Fin 7, ∑ q : Fin 256, aX m c (ix4 n ⟨h, hh⟩ w q) * aW1 m c (ix4 ⟨h, hh⟩ w q o) else 0

/-- A point's product is its window row of the contraction. -/
theorem rowsum_eq (r : Fin 1000) (o : Fin 1024) : rowsum m c t r o = rowterm m c (row t r) (t.val % 7) o := by
  unfold rowsum rowterm
  rw [dif_pos (Nat.mod_lt _ (by decide))]
  refine Finset.sum_congr rfl fun w _ => Finset.sum_congr rfl fun q _ => ?_
  rw [bx_apply, bw_apply, eW1_apply]
  rfl

/-- The window rows of a row's contraction, summed. -/
theorem patch_eq (n : Fin 5000) (o : Fin 1024) : patch (aX m c) (aW1 m c) n o = ∑ h ∈ Finset.range 7, rowterm m c n h o := by
  unfold patch
  rw [Finset.sum_range]
  refine Finset.sum_congr rfl fun h _ => ?_
  unfold rowterm
  rw [dif_pos h.isLt]

/-- THE ACCUMULATOR after a point: the window rows met so far of its rows' contraction. -/
theorem acc_eq : ∀ (n : ℕ) (t : Fin cfg0.N), t.val = n → ∀ (r : Fin 1000) (o : Fin 1024),
    (outsAt0 m c t.val t.isLt).2.2.2 (ix2 r o) = ∑ h ∈ Finset.range (t.val % 7 + 1), rowterm m c (row t r) h o := by
  intro n
  induction n with
  | zero =>
    intro t ht r o
    have h0 : t.val % 7 = 0 := by omega
    rw [first m c t h0 (by omega) (by omega), rowsum_eq, h0, Finset.sum_range_one]
  | succ n ih =>
    intro t ht r o
    by_cases h0 : t.val % 7 = 0
    · rw [first m c t h0 (by omega) (by omega), rowsum_eq, h0, Finset.sum_range_one]
    · have hlt : t.val - 1 < cfg0.N := Nat.lt_of_le_of_lt (Nat.sub_le _ _) t.isLt
      have ep := ih ⟨t.val - 1, hlt⟩ (by show t.val - 1 = n; omega) r o
      have er : row ⟨t.val - 1, hlt⟩ r = row t r := Fin.ext (by show (t.val - 1) / 7 * 1000 + r.val = t.val / 7 * 1000 + r.val; omega)
      have ek : (t.val - 1) % 7 + 1 = t.val % 7 := by omega
      rw [er] at ep
      have ep' : (outsAt0 m c (t.val - 1) hlt).2.2.2 (ix2 r o) = ∑ h ∈ Finset.range (t.val % 7), rowterm m c (row t r) h o := by
        rw [← ek]; exact ep
      rw [Finset.sum_range_succ, ← ep', ← rowsum_eq]
      by_cases h6 : t.val % 7 = 6
      · exact last_acc m c t h0 (by omega) h6 r o
      · exact middle m c t h0 (by omega) h6 r o

/-- The accumulator at the last window row holds the whole contraction. -/
theorem acc_last (h6 : t.val % 7 = 6) (r : Fin 1000) (o : Fin 1024) :
    (outsAt0 m c t.val t.isLt).2.2.2 (ix2 r o) = patch (aX m c) (aW1 m c) (row t r) o := by
  rw [acc_eq m c t.val t rfl r o, h6, patch_eq]

/-- The head's second layer, its norms folded. -/
def Y (n : Fin 5000) (o : Fin 1024) : EReal :=
  layer2 folded (layer1 folded (aX m c) (aW1 m c) (ab1 m c) (ag1 m c) (ae1 m c) (am1 m c) (av1 m c)) (aW2 m c) (ab2 m c) (ag2 m c) (ae2 m c) (am2 m c) (av2 m c) n o

/-- The body's second layer at the last window row. -/
theorem hidden (h6 : t.val % 7 = 6) (r : Fin 1000) (o : Fin 1024) :
    k0_pay3 (F := Ideal) (outsAt0 m c t.val t.isLt).2.2.2 (iblk m c 2 t) (iblk m c 3 t) (iblk m c 4 t) (iblk m c 5 t) (iblk m c 6 t) (ix2 r o)
      = Y m c (row t r) o := by
  rw [blk2, blk3, blk4, blk5, blk6]
  refine (Pure.pay3_apply _ _ _ _ _ _ r o).trans ?_
  unfold Y layer2 layer1 folded
  rw [es2_apply, et2_apply]
  congr 3
  refine Finset.sum_congr rfl fun k _ => ?_
  rw [es1_apply, et1_apply, eW2_apply, acc_last m c t h6 r k]

/-- The scores' block at the last window row. -/
theorem logits_block (h6 : t.val % 7 = 6) (r : Fin 1000) (j : Fin 81) :
    (outsAt0 m c t.val t.isLt).1 (ix2 r j) = top (Y m c) (aWc m c) (abc m c) (row t r) j := by
  rw [last_logits m c t (by omega) (by omega) h6]
  refine (Pure.pay4_apply _ _ _ _ _ _ _ _ r j).trans ?_
  rw [blk7, blk8, ebc_apply]
  unfold top
  congr 1
  refine Finset.sum_congr rfl fun k _ => ?_
  rw [hidden m c t h6 r k, eWc_apply]

/-- The probabilities' block at the last window row. -/
theorem prob_block (h6 : t.val % 7 = 6) (r : Fin 1000) (j : Fin 81) :
    (outsAt0 m c t.val t.isLt).2.1 (ix2 r j) = soft (fun j => top (Y m c) (aWc m c) (abc m c) (row t r) j) j := by
  rw [last_prob m c t (by omega) (by omega) h6]
  refine (Pure.soft_apply _ _ _ _ _ _ _ _ r j).trans ?_
  rw [← last_logits m c t (by omega) (by omega) h6]
  congr 1
  funext j
  exact logits_block m c t h6 r j

/-- The offsets' block at the last window row. -/
theorem off_block (h6 : t.val % 7 = 6) (r : Fin 1000) (j : Fin 324) :
    (outsAt0 m c t.val t.isLt).2.2.1 (ix2 r j) = top (Y m c) (aWo m c) (abo m c) (row t r) j := by
  rw [last_off m c t (by omega) (by omega) h6]
  refine (Pure.pay2_apply _ _ _ r j).trans ?_
  rw [blk9, blk10, ebo_apply]
  unfold top
  congr 1
  refine Finset.sum_congr rfl fun k _ => ?_
  rw [hidden m c t h6 r k, eWo_apply]

end Cert.DetHead.Acc
-- ==== Proof.Arrays.lean ====
/-
  The kernel's result arrays when the run ends: every row's scores, softmax and box offsets, and the offsets as boxes of four.
-/
module

public import proofs.«01_k».proof.Proof.Acc

@[expose] public section

set_option maxRecDepth 16384

noncomputable section

namespace Cert.DetHead.Arrays

open Idealize.ShloMosaic Idealize.ShloMosaic.TcCoe Idealize.ShloMosaic.Tactic Idealize.SL.Sem
open Cert.KernelIdeal Cert.KernelIdeal.Gen Cert.DetHead.Entry Cert.DetHead.Block Cert.DetHead.Acc

variable (m : (ℓ : Loc nD τ sig) → Buf (Elt Ideal) ℓ) (ρ : Dev nD → PrngReg) (c : Dev nD)

/-- The scores of every row. -/
def gL : V2 5000 81 := fun i => top (Y m c) (aWc m c) (abc m c) (i 0) (i 1)

/-- The softmax of every row's scores. -/
def gP : V2 5000 81 := fun i => soft (fun j => top (Y m c) (aWc m c) (abc m c) (i 0) j) (i 1)

/-- The box offsets of every row. -/
def gO : V2 5000 324 := fun i => top (Y m c) (aWo m c) (abo m c) (i 0) (i 1)

/-- The scores' window at a point: the block of rows the point works on. -/
theorem index11 (t : Fin cfg0.N) : win0_11.index t = ![t.val / 7, 0] := by
  revert t
  exact (by decide +kernel : ∀ t : Fin grid0.N, win0_11.index t = ![t.val / 7, 0])

/-- An index is in a point's block when each coordinate is in the block's range. -/
theorem mem11 (t : Fin cfg0.N) (i : S5000x81.Idx) :
    i ∈ ((cfg0.win 11).blk t).view.set ↔ ∀ a : Fin 2, win0_11.index t a * S1000x81.size a ≤ (i a).val ∧ (i a).val < win0_11.index t a * S1000x81.size a + S1000x81.size a := by
  show i ∈ ((View.whole main_v27_0).slice (win0_11.rect t)).set ↔ _
  rw [View.set_slice_whole, Rect.mem_set_unit]
  exact Iff.rfl

/-- What a point writes back of the scores is its block of the whole. -/
theorem flushed11 (t : Fin cfg0.N) (hf : (cfg0.win 11).flush t = true) :
    (dats m 0 c).flushed 11 t = ((cfg0.win 11).blk t).view.read (Elt Ideal) (gL m c) := by
  show (cfg0.win 11).cut (grid0.coords t) ((dats m 0 c).after 11 t) = _
  rw [after0_11]
  have h6 : t.val % 7 = 6 := (flush0_11 t).mp hf
  funext y
  rw [View.read_apply]
  have hy0 : (y 0).val < 1000 := (y 0).isLt
  have hy1 : (y 1).val < 81 := (y 1).isLt
  have el : (cfg0.win 11).xinj (grid0.coords t) y = (ix2 ⟨(y 0).val, hy0⟩ ⟨(y 1).val, hy1⟩ : (⟨2, ![1000, 81]⟩ : Shape).Idx) := by
    funext a
    match a with
    | ⟨0, _⟩ => rfl
    | ⟨1, _⟩ => rfl
  have e0 : (((cfg0.win 11).blk t).view.emb y 0 : Fin 5000) = row t ⟨(y 0).val, hy0⟩ :=
    Fin.ext (show win0_11.index t 0 * 1000 + 1 * (y 0).val = t.val / 7 * 1000 + (y 0).val by
      rw [index11]; show t.val / 7 * 1000 + 1 * (y 0).val = _; omega)
  have e1 : (((cfg0.win 11).blk t).view.emb y 1 : Fin 81) = ⟨(y 1).val, hy1⟩ :=
    Fin.ext (show win0_11.index t 1 * 81 + 1 * (y 1).val = (y 1).val by
      rw [index11]; show 0 * 81 + 1 * (y 1).val = _; omega)
  show (outsAt0 m c t.val t.isLt).1 ((cfg0.win 11).xinj (grid0.coords t) y) = gL m c (((cfg0.win 11).blk t).view.emb y)
  rw [el]
  refine (logits_block m c t h6 _ _).trans ?_
  unfold gL
  rw [e0, e1]
  rfl

/-- The scores' array after the run. -/
theorem final11 : (dats m 0 c).arrAt 11 cfg0.N = gL m c := by
  refine (dats m 0 c).arrAt_eq_of_cover 11 _ (fun t hf => flushed11 m c t hf) fun i => ?_
  have h0 : (i 0).val < 5000 := (i 0).isLt
  have h1 : (i 1).val < 81 := (i 1).isLt
  have hlt : 7 * ((i 0).val / 1000) + 6 < cfg0.N := by rw [show cfg0.N = 35 from N_0]; omega
  have ht := index11 ⟨7 * ((i 0).val / 1000) + 6, hlt⟩
  have hd : (7 * ((i 0).val / 1000) + 6) / 7 = (i 0).val / 1000 := by omega
  refine ⟨⟨7 * ((i 0).val / 1000) + 6, hlt⟩, (flush0_11 _).mpr (by show (7 * ((i 0).val / 1000) + 6) % 7 = 6; omega), ?_⟩
  refine (mem11 _ i).mpr fun a => ?_
  match a with
  | ⟨0, _⟩ =>
    show win0_11.index _ (0 : Fin 2) * 1000 ≤ (i 0).val ∧ (i 0).val < win0_11.index _ (0 : Fin 2) * 1000 + 1000
    rw [ht]
    show (7 * ((i 0).val / 1000) + 6) / 7 * 1000 ≤ (i 0).val ∧ (i 0).val < (7 * ((i 0).val / 1000) + 6) / 7 * 1000 + 1000
    rw [hd]; omega
  | ⟨1, _⟩ =>
    show win0_11.index _ (1 : Fin 2) * 81 ≤ (i 1).val ∧ (i 1).val < win0_11.index _ (1 : Fin 2) * 81 + 81
    rw [ht]
    show 0 * 81 ≤ (i 1).val ∧ (i 1).val < 0 * 81 + 81
    omega

/-- The softmax' window at a point: the block of rows the point works on. -/
theorem index12 (t : Fin cfg0.N) : win0_12.index t = ![t.val / 7, 0] := by
  revert t
  exact (by decide +kernel : ∀ t : Fin grid0.N, win0_12.index t = ![t.val / 7, 0])

/-- An index is in a point's block when each coordinate is in the block's range. -/
theorem mem12 (t : Fin cfg0.N) (i : S5000x81.Idx) :
    i ∈ ((cfg0.win 12).blk t).view.set ↔ ∀ a : Fin 2, win0_12.index t a * S1000x81.size a ≤ (i a).val ∧ (i a).val < win0_12.index t a * S1000x81.size a + S1000x81.size a := by
  show i ∈ ((View.whole main_v27_1).slice (win0_12.rect t)).set ↔ _
  rw [View.set_slice_whole, Rect.mem_set_unit]
  exact Iff.rfl

/-- What a point writes back of the softmax is its block of the whole. -/
theorem flushed12 (t : Fin cfg0.N) (hf : (cfg0.win 12).flush t = true) :
    (dats m 0 c).flushed 12 t = ((cfg0.win 12).blk t).view.read (Elt Ideal) (gP m c) := by
  show (cfg0.win 12).cut (grid0.coords t) ((dats m 0 c).after 12 t) = _
  rw [after0_12]
  have h6 : t.val % 7 = 6 := (flush0_12 t).mp hf
  funext y
  rw [View.read_apply]
  have hy0 : (y 0).val < 1000 := (y 0).isLt
  have hy1 : (y 1).val < 81 := (y 1).isLt
  have el : (cfg0.win 12).xinj (grid0.coords t) y = (ix2 ⟨(y 0).val, hy0⟩ ⟨(y 1).val, hy1⟩ : (⟨2, ![1000, 81]⟩ : Shape).Idx) := by
    funext a
    match a with
    | ⟨0, _⟩ => rfl
    | ⟨1, _⟩ => rfl
  have e0 : (((cfg0.win 12).blk t).view.emb y 0 : Fin 5000) = row t ⟨(y 0).val, hy0⟩ :=
    Fin.ext (show win0_12.index t 0 * 1000 + 1 * (y 0).val = t.val / 7 * 1000 + (y 0).val by
      rw [index12]; show t.val / 7 * 1000 + 1 * (y 0).val = _; omega)
  have e1 : (((cfg0.win 12).blk t).view.emb y 1 : Fin 81) = ⟨(y 1).val, hy1⟩ :=
    Fin.ext (show win0_12.index t 1 * 81 + 1 * (y 1).val = (y 1).val by
      rw [index12]; show 0 * 81 + 1 * (y 1).val = _; omega)
  show (outsAt0 m c t.val t.isLt).2.1 ((cfg0.win 12).xinj (grid0.coords t) y) = gP m c (((cfg0.win 12).blk t).view.emb y)
  rw [el]
  refine (prob_block m c t h6 _ _).trans ?_
  unfold gP
  rw [e0, e1]
  rfl

/-- The softmax' array after the run. -/
theorem final12 : (dats m 0 c).arrAt 12 cfg0.N = gP m c := by
  refine (dats m 0 c).arrAt_eq_of_cover 12 _ (fun t hf => flushed12 m c t hf) fun i => ?_
  have h0 : (i 0).val < 5000 := (i 0).isLt
  have h1 : (i 1).val < 81 := (i 1).isLt
  have hlt : 7 * ((i 0).val / 1000) + 6 < cfg0.N := by rw [show cfg0.N = 35 from N_0]; omega
  have ht := index12 ⟨7 * ((i 0).val / 1000) + 6, hlt⟩
  have hd : (7 * ((i 0).val / 1000) + 6) / 7 = (i 0).val / 1000 := by omega
  refine ⟨⟨7 * ((i 0).val / 1000) + 6, hlt⟩, (flush0_12 _).mpr (by show (7 * ((i 0).val / 1000) + 6) % 7 = 6; omega), ?_⟩
  refine (mem12 _ i).mpr fun a => ?_
  match a with
  | ⟨0, _⟩ =>
    show win0_12.index _ (0 : Fin 2) * 1000 ≤ (i 0).val ∧ (i 0).val < win0_12.index _ (0 : Fin 2) * 1000 + 1000
    rw [ht]
    show (7 * ((i 0).val / 1000) + 6) / 7 * 1000 ≤ (i 0).val ∧ (i 0).val < (7 * ((i 0).val / 1000) + 6) / 7 * 1000 + 1000
    rw [hd]; omega
  | ⟨1, _⟩ =>
    show win0_12.index _ (1 : Fin 2) * 81 ≤ (i 1).val ∧ (i 1).val < win0_12.index _ (1 : Fin 2) * 81 + 81
    rw [ht]
    show 0 * 81 ≤ (i 1).val ∧ (i 1).val < 0 * 81 + 81
    omega

/-- The offsets' window at a point: the block of rows the point works on. -/
theorem index13 (t : Fin cfg0.N) : win0_13.index t = ![t.val / 7, 0] := by
  revert t
  exact (by decide +kernel : ∀ t : Fin grid0.N, win0_13.index t = ![t.val / 7, 0])

/-- An index is in a point's block when each coordinate is in the block's range. -/
theorem mem13 (t : Fin cfg0.N) (i : S5000x324.Idx) :
    i ∈ ((cfg0.win 13).blk t).view.set ↔ ∀ a : Fin 2, win0_13.index t a * S1000x324.size a ≤ (i a).val ∧ (i a).val < win0_13.index t a * S1000x324.size a + S1000x324.size a := by
  show i ∈ ((View.whole main_v27_2).slice (win0_13.rect t)).set ↔ _
  rw [View.set_slice_whole, Rect.mem_set_unit]
  exact Iff.rfl

/-- What a point writes back of the offsets is its block of the whole. -/
theorem flushed13 (t : Fin cfg0.N) (hf : (cfg0.win 13).flush t = true) :
    (dats m 0 c).flushed 13 t = ((cfg0.win 13).blk t).view.read (Elt Ideal) (gO m c) := by
  show (cfg0.win 13).cut (grid0.coords t) ((dats m 0 c).after 13 t) = _
  rw [after0_13]
  have h6 : t.val % 7 = 6 := (flush0_13 t).mp hf
  funext y
  rw [View.read_apply]
  have hy0 : (y 0).val < 1000 := (y 0).isLt
  have hy1 : (y 1).val < 324 := (y 1).isLt
  have el : (cfg0.win 13).xinj (grid0.coords t) y = (ix2 ⟨(y 0).val, hy0⟩ ⟨(y 1).val, hy1⟩ : (⟨2, ![1000, 324]⟩ : Shape).Idx) := by
    funext a
    match a with
    | ⟨0, _⟩ => rfl
    | ⟨1, _⟩ => rfl
  have e0 : (((cfg0.win 13).blk t).view.emb y 0 : Fin 5000) = row t ⟨(y 0).val, hy0⟩ :=
    Fin.ext (show win0_13.index t 0 * 1000 + 1 * (y 0).val = t.val / 7 * 1000 + (y 0).val by
      rw [index13]; show t.val / 7 * 1000 + 1 * (y 0).val = _; omega)
  have e1 : (((cfg0.win 13).blk t).view.emb y 1 : Fin 324) = ⟨(y 1).val, hy1⟩ :=
    Fin.ext (show win0_13.index t 1 * 324 + 1 * (y 1).val = (y 1).val by
      rw [index13]; show 0 * 324 + 1 * (y 1).val = _; omega)
  show (outsAt0 m c t.val t.isLt).2.2.1 ((cfg0.win 13).xinj (grid0.coords t) y) = gO m c (((cfg0.win 13).blk t).view.emb y)
  rw [el]
  refine (off_block m c t h6 _ _).trans ?_
  unfold gO
  rw [e0, e1]
  rfl

/-- The offsets' array after the run. -/
theorem final13 : (dats m 0 c).arrAt 13 cfg0.N = gO m c := by
  refine (dats m 0 c).arrAt_eq_of_cover 13 _ (fun t hf => flushed13 m c t hf) fun i => ?_
  have h0 : (i 0).val < 5000 := (i 0).isLt
  have h1 : (i 1).val < 324 := (i 1).isLt
  have hlt : 7 * ((i 0).val / 1000) + 6 < cfg0.N := by rw [show cfg0.N = 35 from N_0]; omega
  have ht := index13 ⟨7 * ((i 0).val / 1000) + 6, hlt⟩
  have hd : (7 * ((i 0).val / 1000) + 6) / 7 = (i 0).val / 1000 := by omega
  refine ⟨⟨7 * ((i 0).val / 1000) + 6, hlt⟩, (flush0_13 _).mpr (by show (7 * ((i 0).val / 1000) + 6) % 7 = 6; omega), ?_⟩
  refine (mem13 _ i).mpr fun a => ?_
  match a with
  | ⟨0, _⟩ =>
    show win0_13.index _ (0 : Fin 2) * 1000 ≤ (i 0).val ∧ (i 0).val < win0_13.index _ (0 : Fin 2) * 1000 + 1000
    rw [ht]
    show (7 * ((i 0).val / 1000) + 6) / 7 * 1000 ≤ (i 0).val ∧ (i 0).val < (7 * ((i 0).val / 1000) + 6) / 7 * 1000 + 1000
    rw [hd]; omega
  | ⟨1, _⟩ =>
    show win0_13.index _ (1 : Fin 2) * 324 ≤ (i 1).val ∧ (i 1).val < win0_13.index _ (1 : Fin 2) * 324 + 324
    rw [ht]
    show 0 * 324 ≤ (i 1).val ∧ (i 1).val < 0 * 324 + 324
    omega

/-- The offsets' reshape after the region. -/
theorem tail : (Pipeline.afterTail₀ cfgs (dats m) 0 (V0 m) [hostOps1] c main_v28 : (⟨3, ![5000, 81, 4]⟩ : Shape).Idx → EReal)
    = shapeCast S5000x81x4 (gO m c) shapeCasts_S5000x324_S5000x81x4 := by
  unfold Pipeline.afterTail₀
  dsimp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v27_2) = gO m c :=
    (Pipeline.withArrays_arr (cfgs 0).spec (by decide) c (V0 m c) (fun w => (dats m 0 c).arrAt w (cfgs 0).N) 13).trans (final13 m c)
  rw [e]
  rfl

/-- THE RUN, read: the three results at the head's arrays, the arguments unchanged. -/
theorem run : θ_run defs (onTc (τ := τ) (main (F := Ideal))) ⟨m, fun _ => 0, ρ⟩ fun r => ∀ c : Dev nD,
      r.2.mem ((c : Thread nD τ).loc main_v27_0) = gL m c
      ∧ r.2.mem ((c : Thread nD τ).loc main_v27_1) = gP m c
      ∧ r.2.mem ((c : Thread nD τ).loc main_v28) = (shapeCast S5000x81x4 (gO m c) shapeCasts_S5000x324_S5000x81x4 : (⟨3, ![5000, 81, 4]⟩ : Shape).Idx → EReal) :=
  (θ_run defs _ _).mono (fun r h c => ⟨((h c).1 11).trans (final11 m c), ((h c).1 12).trans (final12 m c),
    ((h c).2 main_v28 (Pipeline.mem_restRefs_of main_v28 (by decide) (by decide))).trans (tail m c)⟩) (run_main m ρ)

end Cert.DetHead.Arrays
-- ==== Proof.Ref.lean ====
/-
  The reference's three results read at a row and a column: the class scores, their softmax and the box offsets of the
  head whose batch norm is not folded.
-/
module

public import proofs.«01_k».proof.Proof.Spec
public import proofs.«01_k».proof.Proof.Gen.ReferenceIdeal.Read

@[expose] public section

set_option maxRecDepth 16384

noncomputable section

namespace Cert.DetHead.Ref

open Cert.ReferenceIdeal Cert.ReferenceIdeal.Gen Cert.ReferenceIdeal.Read Idealize.ShloMosaic

/-- The window contraction's dimensions. -/
abbrev D0 := dot_S5000x7x7x256_S7x7x256x1024_S5000x1024_123_012_0_3_n_n

/-- An index of the window contraction is a triple of a row of the window, a column of it and a channel. -/
def win : D0.contr.Idx ≃ Fin 7 × Fin 7 × Fin 256 where
  toFun k := (k ⟨0, by decide⟩, k ⟨1, by decide⟩, k ⟨2, by decide⟩)
  invFun p := fun a => match a with
    | ⟨0, _⟩ => p.1
    | ⟨1, _⟩ => p.2.1
    | ⟨2, _⟩ => p.2.2
  left_inv k := by
    funext a
    match a with
    | ⟨0, _⟩ => rfl
    | ⟨1, _⟩ => rfl
    | ⟨2, _⟩ => rfl
  right_inv p := rfl

/-- The window contraction at a row and a channel. -/
theorem v0_apply (x0 : FVec Ideal S5000x7x7x256 .f32) (x1 : FVec Ideal S7x7x256x1024 .f32) (n : Fin 5000) (o : Fin 1024) :
    val_main_v0 (F := Ideal) x0 x1 (ix2 n o) = patch x0 x1 n o := by
  unfold val_main_v0 patch
  show (0 : EReal) + ∑ k : D0.contr.Idx, x0 (D0.lhsIdx (ix2 n o) k) * x1 (D0.rhsIdx (ix2 n o) k) = _
  rw [zero_add, ← win.symm.sum_comp, Fintype.sum_prod_type]
  refine Finset.sum_congr rfl fun h _ => ?_
  rw [Fintype.sum_prod_type]
  refine Finset.sum_congr rfl fun w _ => Finset.sum_congr rfl fun c _ => ?_
  have hl : D0.lhsIdx (ix2 n o) (win.symm (h, w, c)) = ix4 n h w c := by
    funext a
    match a with
    | ⟨0, _⟩ => rfl
    | ⟨1, _⟩ => rfl
    | ⟨2, _⟩ => rfl
    | ⟨3, _⟩ => rfl
  have hr : D0.rhsIdx (ix2 n o) (win.symm (h, w, c)) = ix4 h w c o := by
    funext a
    match a with
    | ⟨0, _⟩ => rfl
    | ⟨1, _⟩ => rfl
    | ⟨2, _⟩ => rfl
    | ⟨3, _⟩ => rfl
  rw [hl, hr]

variable (x0 : FVec Ideal S5000x7x7x256 .f32) (x1 : FVec Ideal S7x7x256x1024 .f32) (x2 x3 x4 x5 x6 : FVec Ideal S1024 .f32)
  (x7 : FVec Ideal S1x1x1024x1024 .f32) (x8 x9 x10 x11 x12 : FVec Ideal S1024 .f32) (x13 : FVec Ideal S1024x81 .f32)
  (x14 : FVec Ideal S81 .f32) (x15 : FVec Ideal S1024x324 .f32) (x16 : FVec Ideal S324 .f32)

/-- The first layer. -/
theorem v19_apply (n : Fin 5000) (o : Fin 1024) :
    val_main_v19 (F := Ideal) x0 x1 x2 x3 x4 x5 x6 (ix2 n o) = layer1 plain x0 x1 x2 x3 x4 x5 x6 n o := by
  unfold layer1 plain eps
  rw [← v0_apply]
  pointwise [val_main_v19, val_main_v18, val_main_v17, val_main_v16, val_main_v15, val_main_v14, val_main_v13, val_main_v12,
    val_main_v11, val_main_v10, val_main_cst, val_main_v9, val_main_v8, val_main_v7, val_main_v6, val_main_v5, val_main_v4,
    val_main_v3, val_main_v2, val_main_v1, val_main_call0_v0, val_main_call0_cst]

/-- The second layer. -/
theorem v40_apply (n : Fin 5000) (o : Fin 1024) :
    val_main_v40 (F := Ideal) x0 x1 x2 x3 x4 x5 x6 x7 x8 x9 x10 x11 x12 (ix2 n o)
      = layer2 plain (layer1 plain x0 x1 x2 x3 x4 x5 x6) x7 x8 x9 x10 x11 x12 n o := by
  unfold layer2
  simp only [← v19_apply]
  unfold plain eps
  pointwise [val_main_v40, val_main_v39, val_main_v38, val_main_v37, val_main_v36, val_main_v35, val_main_v34, val_main_v33,
    val_main_v32, val_main_v31, val_main_cst_0, val_main_v30, val_main_v29, val_main_v28, val_main_v27, val_main_v26, val_main_v25,
    val_main_v24, val_main_v23, val_main_v22, val_main_v21, val_main_v20, val_main_call1_v0, val_main_call1_cst]

/-- The class scores. -/
theorem v44_apply (n : Fin 5000) (j : Fin 81) :
    val_main_v44 (F := Ideal) x0 x1 x2 x3 x4 x5 x6 x7 x8 x9 x10 x11 x12 x13 x14 (ix2 n j)
      = top (layer2 plain (layer1 plain x0 x1 x2 x3 x4 x5 x6) x7 x8 x9 x10 x11 x12) x13 x14 n j := by
  unfold top
  simp only [← v40_apply]
  pointwise [val_main_v44, val_main_v43, val_main_v42, val_main_v41]

/-- The softmax of the class scores. -/
theorem v55_apply (n : Fin 5000) (j : Fin 81) :
    val_main_v55 (F := Ideal) x0 x1 x2 x3 x4 x5 x6 x7 x8 x9 x10 x11 x12 x13 x14 (ix2 n j)
      = soft (top (layer2 plain (layer1 plain x0 x1 x2 x3 x4 x5 x6) x7 x8 x9 x10 x11 x12) x13 x14 n) j := by
  unfold soft peak
  simp only [← v44_apply]
  pointwise [val_main_v55, val_main_v54, val_main_v53, val_main_v52, val_main_v51, val_main_v50, val_main_v49, val_main_v48,
    val_main_v47, val_main_v46, val_main_v45, val_main_cst_1, val_main_cst_2, val_main_cst_3, neg_inf]
  simp only [max_bot_left]

/-- The box offsets before the last reshape. -/
theorem v59_apply (n : Fin 5000) (j : Fin 324) :
    val_main_v59 (F := Ideal) x0 x1 x2 x3 x4 x5 x6 x7 x8 x9 x10 x11 x12 x15 x16 (ix2 n j)
      = top (layer2 plain (layer1 plain x0 x1 x2 x3 x4 x5 x6) x7 x8 x9 x10 x11 x12) x15 x16 n j := by
  unfold top
  simp only [← v40_apply]
  pointwise [val_main_v59, val_main_v58, val_main_v57, val_main_v56]

end Cert.DetHead.Ref

end
-- ==== Proof.Pre.lean ====
/-
  What the precondition says, channel by channel: the bias, scale and mean of each norm are real numbers, and its variance
  is nonnegative.
-/
module

public import proofs.«01_k».proof.Proof.Spec
public import proofs.«01_k».proof.Proof.Gen.Pre_tame_norm
public import Idealize.ShloMosaic.Lib.Affine

@[expose] public section

set_option maxRecDepth 16384

noncomputable section

namespace Cert.DetHead.Pre

open Idealize.ShloMosaic Cert.Pre_tame_norm

/-- A magnitude below infinity is a real number's. -/
theorem fin_of_abs (x : EReal) (h : max x (-x) < ⊤) : Fin' x := by
  constructor
  · rintro rfl; simp at h
  · rintro rfl; simp at h

/-- Two bits whose conjunction is set are both set. -/
theorem and_bits {a b : BitVec 1} (h : IntOp.andi a b = 1#1) : a = 1#1 ∧ b = 1#1 := by
  revert a b; decide

/-- The bit of a true statement. -/
theorem of_bit {p : Prop} [Decidable p] (h : BitVec.ofBool (decide p) = 1#1) : p := by
  by_contra hn
  rw [decide_eq_false hn] at h
  exact absurd h (by decide)

/-- The precondition at a channel. -/
theorem tame (a0 : FVec Ideal S5000x7x7x256 .f32) (a1 : FVec Ideal S7x7x256x1024 .f32) (a2 a3 a4 a5 a6 : FVec Ideal S1024 .f32) (a7 : FVec Ideal S1x1x1024x1024 .f32)
    (a8 a9 a10 a11 a12 : FVec Ideal S1024 .f32) (a13 : FVec Ideal S1024x81 .f32) (a14 : FVec Ideal S81 .f32) (a15 : FVec Ideal S1024x324 .f32) (a16 : FVec Ideal S324 .f32)
    (h : ∀ i, fn (F := Ideal) a0 a1 a2 a3 a4 a5 a6 a7 a8 a9 a10 a11 a12 a13 a14 a15 a16 i = 1#1) (o : Fin 1024) :
    (Fin' (a2 (ix1 o)) ∧ Fin' (a3 (ix1 o)) ∧ Fin' (a5 (ix1 o)) ∧ 0 ≤ a6 (ix1 o))
      ∧ (Fin' (a8 (ix1 o)) ∧ Fin' (a9 (ix1 o)) ∧ Fin' (a11 (ix1 o)) ∧ 0 ≤ a12 (ix1 o)) := by
  have e := h (ix1 o)
  revert e
  pointwise [fn, fn_part1, pos_inf]
  intro e
  obtain ⟨e, e12⟩ := and_bits e
  obtain ⟨e, e11⟩ := and_bits e
  obtain ⟨e, e9⟩ := and_bits e
  obtain ⟨e, e8⟩ := and_bits e
  obtain ⟨e, e6⟩ := and_bits e
  obtain ⟨e, e5⟩ := and_bits e
  obtain ⟨e2, e3⟩ := and_bits e
  exact ⟨⟨fin_of_abs _ (of_bit e2), fin_of_abs _ (of_bit e3), fin_of_abs _ (of_bit e5), of_bit e6⟩,
    fin_of_abs _ (of_bit e8), fin_of_abs _ (of_bit e9), fin_of_abs _ (of_bit e11), of_bit e12⟩

end Cert.DetHead.Pre
-- ==== Proof.Match.lean ====
/-
  Under the precondition the kernel's three result arrays are the reference's. The kernel folds each batch norm into one
  multiplication and one addition; where the bias, scale and mean are numbers and the variance is not negative, that is the
  batch norm itself, and everything else the two programs compute is the same sum, read in another order.
-/
module

public import proofs.«01_k».proof.Proof.Arrays
public import proofs.«01_k».proof.Proof.Ref
public import proofs.«01_k».proof.Proof.Pre
public import proofs.«01_k».proof.Defs
public import Idealize.ShloMosaic.Lib.Quiescent

@[expose] public section

set_option maxRecDepth 16384

noncomputable section

namespace Cert.DetHead.Match

open Idealize.ShloMosaic Idealize.ShloMosaic.TcCoe Idealize.SL.Sem Cert.DetHead.Entry Cert.DetHead.Acc Cert.DetHead.Arrays

section Values

open Cert.KernelIdeal

variable (m : (ℓ : Loc nD τ sig) → Buf (Elt Ideal) ℓ) (c : Dev nD)

/-- The precondition at one channel of one device: each norm's bias, scale and mean are numbers, its variance not negative. -/
theorem channel (h : @Cert.Pre_KernelIdeal_tame_norm Cert.Pre_tame_norm.Gen.facts m) (o : Fin 1024) :
    (Fin' (ab1 m c (ix1 o)) ∧ Fin' (ag1 m c (ix1 o)) ∧ Fin' (am1 m c (ix1 o)) ∧ 0 ≤ av1 m c (ix1 o))
      ∧ (Fin' (ab2 m c (ix1 o)) ∧ Fin' (ag2 m c (ix1 o)) ∧ Fin' (am2 m c (ix1 o)) ∧ 0 ≤ av2 m c (ix1 o)) :=
  Pre.tame _ _ _ _ _ _ _ _ _ _ _ _ _ _ _ _ _ (fun i => congrFun (h c) i) o

/-- The kernel's second layer is the one whose norms are not folded. -/
theorem hidden_plain (h : @Cert.Pre_KernelIdeal_tame_norm Cert.Pre_tame_norm.Gen.facts m) :
    Y m c = layer2 plain (layer1 plain (aX m c) (aW1 m c) (ab1 m c) (ag1 m c) (ae1 m c) (am1 m c) (av1 m c))
      (aW2 m c) (ab2 m c) (ag2 m c) (ae2 m c) (am2 m c) (av2 m c) := by
  funext n o
  unfold Y
  rw [layer1_eq _ _ _ _ _ _ _ fun o => (channel m c h o).1, layer2_eq _ _ _ _ _ _ _ fun o => (channel m c h o).2]

/-- The class scores are the reference's. -/
theorem scores (h : @Cert.Pre_KernelIdeal_tame_norm Cert.Pre_tame_norm.Gen.facts m) :
    Cert.ReferenceIdeal.Read.val_main_v44 (F := Ideal) (aX m c) (aW1 m c) (ab1 m c) (ag1 m c) (ae1 m c) (am1 m c) (av1 m c)
      (aW2 m c) (ab2 m c) (ag2 m c) (ae2 m c) (am2 m c) (av2 m c) (aWc m c) (abc m c) = gL m c := by
  funext i
  rw [eq_ix2 i]
  refine (Ref.v44_apply _ _ _ _ _ _ _ _ _ _ _ _ _ _ _ (i 0) (i 1)).trans ?_
  unfold gL
  rw [hidden_plain m c h]
  rfl

/-- The class probabilities are the reference's. -/
theorem probabilities (h : @Cert.Pre_KernelIdeal_tame_norm Cert.Pre_tame_norm.Gen.facts m) :
    Cert.ReferenceIdeal.Read.val_main_v55 (F := Ideal) (aX m c) (aW1 m c) (ab1 m c) (ag1 m c) (ae1 m c) (am1 m c) (av1 m c)
      (aW2 m c) (ab2 m c) (ag2 m c) (ae2 m c) (am2 m c) (av2 m c) (aWc m c) (abc m c) = gP m c := by
  funext i
  rw [eq_ix2 i]
  refine (Ref.v55_apply _ _ _ _ _ _ _ _ _ _ _ _ _ _ _ (i 0) (i 1)).trans ?_
  unfold gP
  rw [hidden_plain m c h]
  rfl

/-- The box offsets, before they are read as boxes of four, are the reference's. -/
theorem offsets (h : @Cert.Pre_KernelIdeal_tame_norm Cert.Pre_tame_norm.Gen.facts m) :
    Cert.ReferenceIdeal.Read.val_main_v59 (F := Ideal) (aX m c) (aW1 m c) (ab1 m c) (ag1 m c) (ae1 m c) (am1 m c) (av1 m c)
      (aW2 m c) (ab2 m c) (ag2 m c) (ae2 m c) (am2 m c) (av2 m c) (aWo m c) (abo m c) = gO m c := by
  funext i
  rw [eq_ix2 i]
  refine (Ref.v59_apply _ _ _ _ _ _ _ _ _ _ _ _ _ _ _ (i 0) (i 1)).trans ?_
  unfold gO
  rw [hidden_plain m c h]
  rfl

/-- The box offsets as boxes of four are the reference's. -/
theorem boxes (h : @Cert.Pre_KernelIdeal_tame_norm Cert.Pre_tame_norm.Gen.facts m) :
    Cert.ReferenceIdeal.Read.val_main_v60 (F := Ideal) (aX m c) (aW1 m c) (ab1 m c) (ag1 m c) (ae1 m c) (am1 m c) (av1 m c)
      (aW2 m c) (ab2 m c) (ag2 m c) (ae2 m c) (am2 m c) (av2 m c) (aWo m c) (abo m c)
      = (shapeCast S5000x81x4 (gO m c) Gen.shapeCasts_S5000x324_S5000x81x4 : (⟨3, ![5000, 81, 4]⟩ : Shape).Idx → EReal) := by
  unfold Cert.ReferenceIdeal.Read.val_main_v60
  rw [offsets m c h]

/-- Arrays equal to the kernel's arguments on a device. -/
structure Agree (x0 : V4 5000 7 7 256) (x1 : V4 7 7 256 1024) (x2 x3 x4 x5 x6 : V1 1024) (x7 : V4 1 1 1024 1024)
    (x8 x9 x10 x11 x12 : V1 1024) (x13 : V2 1024 81) (x14 : V1 81) (x15 : V2 1024 324) (x16 : V1 324) : Prop where
  /-- Argument 0. -/
  e0 : x0 = aX m c
  /-- Argument 1. -/
  e1 : x1 = aW1 m c
  /-- Argument 2. -/
  e2 : x2 = ab1 m c
  /-- Argument 3. -/
  e3 : x3 = ag1 m c
  /-- Argument 4. -/
  e4 : x4 = ae1 m c
  /-- Argument 5. -/
  e5 : x5 = am1 m c
  /-- Argument 6. -/
  e6 : x6 = av1 m c
  /-- Argument 7. -/
  e7 : x7 = aW2 m c
  /-- Argument 8. -/
  e8 : x8 = ab2 m c
  /-- Argument 9. -/
  e9 : x9 = ag2 m c
  /-- Argument 10. -/
  e10 : x10 = ae2 m c
  /-- Argument 11. -/
  e11 : x11 = am2 m c
  /-- Argument 12. -/
  e12 : x12 = av2 m c
  /-- Argument 13. -/
  e13 : x13 = aWc m c
  /-- Argument 14. -/
  e14 : x14 = abc m c
  /-- Argument 15. -/
  e15 : x15 = aWo m c
  /-- Argument 16. -/
  e16 : x16 = abo m c

/-- From equal arguments, under the precondition, the reference's three results are the kernel's. -/
theorem results (h : @Cert.Pre_KernelIdeal_tame_norm Cert.Pre_tame_norm.Gen.facts m)
    {x0 : V4 5000 7 7 256} {x1 : V4 7 7 256 1024} {x2 x3 x4 x5 x6 : V1 1024} {x7 : V4 1 1 1024 1024}
    {x8 x9 x10 x11 x12 : V1 1024} {x13 : V2 1024 81} {x14 : V1 81} {x15 : V2 1024 324} {x16 : V1 324}
    (a : Agree m c x0 x1 x2 x3 x4 x5 x6 x7 x8 x9 x10 x11 x12 x13 x14 x15 x16) :
    Cert.ReferenceIdeal.Read.val_main_v44 (F := Ideal) x0 x1 x2 x3 x4 x5 x6 x7 x8 x9 x10 x11 x12 x13 x14 = gL m c
      ∧ Cert.ReferenceIdeal.Read.val_main_v55 (F := Ideal) x0 x1 x2 x3 x4 x5 x6 x7 x8 x9 x10 x11 x12 x13 x14 = gP m c
      ∧ Cert.ReferenceIdeal.Read.val_main_v60 (F := Ideal) x0 x1 x2 x3 x4 x5 x6 x7 x8 x9 x10 x11 x12 x15 x16
        = (shapeCast S5000x81x4 (gO m c) Gen.shapeCasts_S5000x324_S5000x81x4 : (⟨3, ![5000, 81, 4]⟩ : Shape).Idx → EReal) := by
  obtain ⟨rfl, rfl, rfl, rfl, rfl, rfl, rfl, rfl, rfl, rfl, rfl, rfl, rfl, rfl, rfl, rfl, rfl⟩ := a
  exact ⟨scores m c h, probabilities m c h, boxes m c h⟩

end Values

end Cert.DetHead.Match
-- ==== Proof.lean ====
/-
  The detection head's claims. Both printings of the kernel run and leave their arguments and counters as they found them, so
  does the reference, and at the extended reals the kernel's scores, probabilities and boxes are the reference's.
-/
module

public import proofs.«01_k».proof.Proof.Gen.ReferenceIdeal.Read
public import proofs.«01_k».proof.Proof.Gen.ReferenceIdeal.Run
public import proofs.«01_k».proof.Defs
public import proofs.«01_k».proof.Proof.Match
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame_norm
public import Idealize.ShloMosaic.Adequacy
public import Idealize.ShloMosaic.Init

@[expose] public section

noncomputable section

namespace Cert.Proof

open Idealize.ShloMosaic Idealize.SL.Sem Cert.DetHead

/-- The kernel as written runs, and keeps its arguments and its counters. -/
theorem frame_kernel : @Cert.quiescent_Kernel Cert.Kernel.Gen.facts :=
  fun m ρ _ => Cert.Kernel.Gen.frame m ρ

/-- So does the kernel read at the extended reals. -/
theorem frame_ideal : @Cert.quiescent_KernelIdeal Cert.KernelIdeal.Gen.facts :=
  fun m ρ _ => Cert.KernelIdeal.Gen.frame m ρ

/-- So does the reference: it is a list of host operations, which declare no counter. -/
theorem frame_reference : @Cert.quiescent_ReferenceIdeal Cert.ReferenceIdeal.Gen.facts := fun m ρ _ =>
  (θ_run Cert.ReferenceIdeal.defs _ _).mono
    (fun r h => ⟨fun c => (h c).2.2.2, sem_eq_zero_of_no_sems (by decide) r.2⟩) (Cert.ReferenceIdeal.Value.run m ρ)

section Reference

open Cert.ReferenceIdeal Cert.ReferenceIdeal.Read

/-- The reference's run, its three results named as functions of its arguments. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v60) = val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) :=
  (θ_run defs _ _).mono (fun r h c =>
    ⟨(h c).1.trans (val_main_v44_eq _ _ _ _ _ _ _ _ _ _ _ _ _ _ _), (h c).2.1.trans (val_main_v55_eq m c),
      (h c).2.2.1.trans (val_main_v60_eq _ _ _ _ _ _ _ _ _ _ _ _ _ _ _)⟩) (Value.run m ρ)

end Reference

/-- The kernel's scores, probabilities and boxes are the reference's. -/
theorem same_results :
    @Cert.algebraic_KernelIdeal_ReferenceIdeal_pre_tame_norm Cert.KernelIdeal.Gen.facts Cert.ReferenceIdeal.Gen.facts Cert.Pre_tame_norm.Gen.facts := by
  intro m g m' g' hpre hargs
  refine ⟨fun c => Arrays.gL m c, fun c => Arrays.gP m c,
    fun c => shapeCast Cert.KernelIdeal.S5000x81x4 (Arrays.gO m c) Cert.KernelIdeal.Gen.shapeCasts_S5000x324_S5000x81x4, ?_, ?_⟩
  · exact (θ_run Cert.KernelIdeal.defs _ _).mono
      (fun r h c => ⟨(h.1 c).1, (h.1 c).2.1, (h.1 c).2.2, h.2 c⟩)
      (θ_run_and (Arrays.run m g) (Cert.KernelIdeal.Gen.unchanged m g))
  · refine (θ_run Cert.ReferenceIdeal.defs _ _).mono (fun r h c => ?_)
      (θ_run_and (reference_run m' g') (frame_reference m' g' trivial))
    obtain ⟨a0, a1, a2, a3, a4, a5, a6, a7, a8, a9, a10, a11, a12, a13, a14, a15, a16⟩ := hargs c
    have e := Match.results m c hpre ⟨a0, a1, a2, a3, a4, a5, a6, a7, a8, a9, a10, a11, a12, a13, a14, a15, a16⟩
    exact ⟨(h.1 c).1.trans e.1, (h.1 c).2.1.trans e.2.1, (h.1 c).2.2.trans e.2.2, h.2.1 c⟩

/-- Everything claimed. -/
theorem claim : Cert.Claim := ⟨Cert.Kernel.Gen.facts, Cert.KernelIdeal.Gen.facts, Cert.ReferenceIdeal.Gen.facts, Cert.Pre_tame_norm.Gen.facts,
  frame_kernel, frame_ideal, fun m ρ _ => frame_ideal m ρ trivial, fun m ρ h => frame_reference m ρ h,
  fun m ρ _ => frame_reference m ρ trivial, trivial, same_results⟩

end Cert.Proof

end
